-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_proj [hPre_finite_proj : Cert.Pre_finite_proj.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_proj.fn (F := Ideal) (m ((c.tc : Thread Cert.Kernel7Ideal.nD Cert.Kernel7Ideal.τ).loc Cert.Kernel7Ideal.main_arg0))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_proj [hPre_finite_proj : Cert.Pre_finite_proj.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_proj.fn (F := Ideal) (m ((c.tc : Thread Cert.Reference7Ideal.nD Cert.Reference7Ideal.τ).loc Cert.Reference7Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Kernel7Ideal_pre_finite_proj [hKernel7Ideal : Cert.Kernel7Ideal.Facts] [hPre_finite_proj : Cert.Pre_finite_proj.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_proj m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Reference7Ideal_pre_finite_proj [hReference7Ideal : Cert.Reference7Ideal.Facts] [hPre_finite_proj : Cert.Pre_finite_proj.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_proj m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_proj [hKernel7Ideal : Cert.Kernel7Ideal.Facts] [hReference7Ideal : Cert.Reference7Ideal.Facts] [hPre_finite_proj : Cert.Pre_finite_proj.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_proj m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v73)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v73) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v132) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite_proj : Cert.Pre_finite_proj.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_proj (hKernel7Ideal := hKernel7Ideal) (hPre_finite_proj := hPre_finite_proj)
    ∧ quiescent_Reference7Ideal (hReference7Ideal := hReference7Ideal)
    ∧ quiescent_Reference7Ideal_pre_finite_proj (hReference7Ideal := hReference7Ideal) (hPre_finite_proj := hPre_finite_proj)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_proj (hKernel7Ideal := hKernel7Ideal) (hReference7Ideal := hReference7Ideal) (hPre_finite_proj := hPre_finite_proj)
-- ==== Pre_finite.lean ====
abbrev S8192x26624 : Shape := ⟨2, ![8192, 26624]⟩
abbrev S16x192 : Shape := ⟨2, ![16, 192]⟩
abbrev S128 : Shape := ⟨1, ![128]⟩
abbrev S_ : Shape := ⟨0, ![]⟩

class Facts : Prop where
  bcast_S_S16x192 : S_.BroadcastsInDim S16x192 (![] : Fin 0 → Fin S16x192.rank)
  reducesTo_S16x192_S_d0_1 : S16x192.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S8192x26624 .bf16) (main_arg1 : FVec F S16x192 .f32) (main_arg2 : FVec F S128 .f32) (main_arg3 : FVec F S128 .f32) : IVec S_ 1 :=
  let main_v0 : FVec F S16x192 .f32 := Host.absf main_arg1
  let main_cst : FVec F S_ .f32 := constant S_ .f32 0x7F800000#32
  let main_v1 : FVec F S16x192 .f32 := broadcastInDim S16x192 ![] bcast_S_S16x192 main_cst
  let main_v2 : IVec S16x192 1 := cmpf .olt main_v0 main_v1
  let main_c : IVec S_ 1 := constantI S_ 1 1#1
  let main_v3 : IVec S_ 1 := (fun x v => Host.reduce IntOp.andi x v reducesTo_S16x192_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Pre_finite_proj.lean ====
abbrev S8192x26624 : Shape := ⟨2, ![8192, 26624]⟩
abbrev S_ : Shape := ⟨0, ![]⟩

class Facts : Prop where
  bcast_S_S8192x26624 : S_.BroadcastsInDim S8192x26624 (![] : Fin 0 → Fin S8192x26624.rank)
  reducesTo_S8192x26624_S_d0_1 : S8192x26624.ReducesTo [0, 1] S_
  h_S_ : 0 < S_.numel

variable [Facts]

def fn {F : FTy → Type} [FloatOps F] (main_arg0 : FVec F S8192x26624 .bf16) : IVec S_ 1 :=
  let main_v0 : FVec F S8192x26624 .bf16 := Host.absf main_arg0
  let main_cst : FVec F S_ .bf16 := constant S_ .bf16 0x7F80#16
  let main_v1 : FVec F S8192x26624 .bf16 := broadcastInDim S8192x26624 ![] bcast_S_S8192x26624 main_cst
  let main_v2 : IVec S8192x26624 1 := cmpf .olt main_v0 main_v1
  let main_c : IVec S_ 1 := constantI S_ 1 1#1
  let main_v3 : IVec S_ 1 := (fun x v => Host.reduce IntOp.andi x v reducesTo_S8192x26624_S_d0_1 h_S_) main_v2 main_c
  main_v3
-- ==== Kernel.lean ====
abbrev S8192x26624 : Shape := ⟨2, ![8192, 26624]⟩
abbrev S16x192 : Shape := ⟨2, ![16, 192]⟩
abbrev S128 : Shape := ⟨1, ![128]⟩
abbrev S1024 : Shape := ⟨1, ![1024]⟩
abbrev S_ : Shape := ⟨0, ![]⟩
abbrev S1024x1 : Shape := ⟨2, ![1024, 1]⟩
abbrev S16x1024 : Shape := ⟨2, ![16, 1024]⟩
abbrev S16x1x1024 : Shape := ⟨3, ![16, 1, 1024]⟩
abbrev S16x256x768 : Shape := ⟨3, ![16, 256, 768]⟩
abbrev S1x1x1024 : Shape := ⟨3, ![1, 1, 1024]⟩
abbrev S1x256x768 : Shape := ⟨3, ![1, 256, 768]⟩
abbrev S1x1024 : Shape := ⟨2, ![1, 1024]⟩
abbrev S256x1024 : Shape := ⟨2, ![256, 1024]⟩
abbrev S256x768 : Shape := ⟨2, ![256, 768]⟩
abbrev S1x128 : Shape := ⟨2, ![1, 128]⟩
abbrev S8192x2048 : Shape := ⟨2, ![8192, 2048]⟩
abbrev S8x256x768 : Shape := ⟨3, ![8, 256, 768]⟩
abbrev S768x1024 : Shape := ⟨2, ![768, 1024]⟩
abbrev S256x128 : Shape := ⟨2, ![256, 128]⟩
abbrev S256 : Shape := ⟨1, ![256]⟩
abbrev S256x1 : Shape := ⟨2, ![256, 1]⟩
abbrev S768x128 : Shape := ⟨2, ![768, 128]⟩
abbrev S768 : Shape := ⟨1, ![768]⟩
abbrev S768x1 : Shape := ⟨2, ![768, 1]⟩

abbrev nBuf : Space → Nat
  | .hbm => 17
  | .vmem => 24
  | .smem => 0
  | _ => 0

abbrev bufTy : (tb : Table) → Fin (tcTables nBuf tb) → BufTy
  | .hbm, ⟨0, _⟩ => ⟨S8192x26624, .bf16⟩
  | .hbm, ⟨1, _⟩ => ⟨S16x192, .f32⟩
  | .hbm, ⟨2, _⟩ => ⟨S128, .f32⟩
  | .hbm, ⟨3, _⟩ => ⟨S128, .f32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S16x1024, .f32⟩
  | .hbm, ⟨12, _⟩ => ⟨S16x1x1024, .f32⟩
  | .hbm, ⟨13, _⟩ => ⟨S16x256x768, .f32⟩
  | .hbm, ⟨14, _⟩ => ⟨S1x128, .f32⟩
  | .hbm, ⟨15, _⟩ => ⟨S1x128, .f32⟩
  | .hbm, ⟨16, _⟩ => ⟨S8192x2048, .bf16⟩
  | .local _ .vmem, ⟨0, _⟩ => ⟨S1x1x1024, .f32⟩
  | .local _ .vmem, ⟨1, _⟩ => ⟨S1x1x1024, .f32⟩
  | .local _ .vmem, ⟨2, _⟩ => ⟨S1x256x768, .f32⟩
  | .local _ .vmem, ⟨3, _⟩ => ⟨S1x256x768, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S8x256x768, .f32⟩
  | .local _ .vmem, ⟨19, _⟩ => ⟨S8x256x768, .f32⟩
  | .local _ .vmem, ⟨20, _⟩ => ⟨S1x128, .f32⟩
  | .local _ .vmem, ⟨21, _⟩ => ⟨S1x128, .f32⟩
  | .local _ .vmem, ⟨22, _⟩ => ⟨S256x1024, .bf16⟩
  | .local _ .vmem, ⟨23, _⟩ => ⟨S256x1024, .bf16⟩
  | _, _ => ⟨S8192x26624, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem9_0 : DmaSem sig := 21
abbrev cc1_sem10_0 : DmaSem sig := 22
abbrev cc1_sem10_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![2, 8, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let v1 : BitVec 32 := Scalar.addi v0 arg1
  let c12_i32 : BitVec 32 := 12#32
  let v2 : BitVec 32 := Scalar.addi c12_i32 arg0
  let c0_i32 : BitVec 32 := 0#32
  ![v1.toNat, v2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c2_i32 : BitVec 32 := 2#32
  let v1 : BitVec 32 := Scalar.subi arg1 c2_i32
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c14_i32 : BitVec 32 := 14#32
  let v5 : BitVec 32 := Scalar.addi c14_i32 arg0
  let c0_i32_1 : BitVec 32 := 0#32
  ![v4.toNat, v5.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c2_i32 : BitVec 32 := 2#32
  let v1 : BitVec 32 := Scalar.subi arg1 c2_i32
  let c1_i32 : BitVec 32 := 1#32
  let v2 : BitVec 32 := Scalar.addi v1 c1_i32
  let c0_i32 : BitVec 32 := 0#32
  let v3 : BitVec 32 := Scalar.maxsi v2 c0_i32
  let v4 : BitVec 32 := Scalar.addi v0 v3
  let c14_i32 : BitVec 32 := 14#32
  let v5 : BitVec 32 := Scalar.addi c14_i32 arg0
  let c0_i32_0 : BitVec 32 := 0#32
  ![v4.toNat, v5.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c2_i32 : BitVec 32 := 2#32
  let v1 : BitVec 32 := Scalar.subi arg1 c2_i32
  let c2_i32_0 : BitVec 32 := 2#32
  let v2 : BitVec 32 := Scalar.addi v1 c2_i32_0
  let c0_i32 : BitVec 32 := 0#32
  let v3 : BitVec 32 := Scalar.maxsi v2 c0_i32
  let v4 : BitVec 32 := Scalar.addi v0 v3
  let c14_i32 : BitVec 32 := 14#32
  let v5 : BitVec 32 := Scalar.addi c14_i32 arg0
  let c0_i32_1 : BitVec 32 := 0#32
  ![v4.toNat, v5.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c2_i32 : BitVec 32 := 2#32
  let v1 : BitVec 32 := Scalar.subi arg1 c2_i32
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c16_i32 : BitVec 32 := 16#32
  let v5 : BitVec 32 := Scalar.addi c16_i32 arg0
  let c0_i32_1 : BitVec 32 := 0#32
  ![v4.toNat, v5.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c2_i32 : BitVec 32 := 2#32
  let v1 : BitVec 32 := Scalar.subi arg1 c2_i32
  let c1_i32 : BitVec 32 := 1#32
  let v2 : BitVec 32 := Scalar.addi v1 c1_i32
  let c0_i32 : BitVec 32 := 0#32
  let v3 : BitVec 32 := Scalar.maxsi v2 c0_i32
  let v4 : BitVec 32 := Scalar.addi v0 v3
  let c16_i32 : BitVec 32 := 16#32
  let v5 : BitVec 32 := Scalar.addi c16_i32 arg0
  let c0_i32_0 : BitVec 32 := 0#32
  ![v4.toNat, v5.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c2_i32 : BitVec 32 := 2#32
  let v1 : BitVec 32 := Scalar.subi arg1 c2_i32
  let c2_i32_0 : BitVec 32 := 2#32
  let v2 : BitVec 32 := Scalar.addi v1 c2_i32_0
  let c0_i32 : BitVec 32 := 0#32
  let v3 : BitVec 32 := Scalar.maxsi v2 c0_i32
  let v4 : BitVec 32 := Scalar.addi v0 v3
  let c16_i32 : BitVec 32 := 16#32
  let v5 : BitVec 32 := Scalar.addi c16_i32 arg0
  let c0_i32_1 : BitVec 32 := 0#32
  ![v4.toNat, v5.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let v1 : BitVec 32 := Scalar.addi v0 arg1
  let c0_i32 : BitVec 32 := 0#32
  ![v1.toNat, arg0.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S8x256x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false, false]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true, true]
-- ==== ReferenceIdeal.lean ====
abbrev S8192x26624 : Shape := ⟨2, ![8192, 26624]⟩
abbrev S16x192 : Shape := ⟨2, ![16, 192]⟩
abbrev S128 : Shape := ⟨1, ![128]⟩
abbrev S8192x2048 : Shape := ⟨2, ![8192, 2048]⟩
abbrev S4x2048x16x128 : Shape := ⟨4, ![4, 2048, 16, 128]⟩
abbrev S_ : Shape := ⟨0, ![]⟩
abbrev S4x2048x16 : Shape := ⟨3, ![4, 2048, 16]⟩
abbrev S4x2048x16x1 : Shape := ⟨4, ![4, 2048, 16, 1]⟩
abbrev S1x1x1x128 : Shape := ⟨4, ![1, 1, 1, 128]⟩
abbrev S4x32x64x16x128 : Shape := ⟨5, ![4, 32, 64, 16, 128]⟩
abbrev S32x4x16x64x128 : Shape := ⟨5, ![32, 4, 16, 64, 128]⟩
abbrev S4x16x2048x128 : Shape := ⟨4, ![4, 16, 2048, 128]⟩
abbrev S4x16x2560x128 : Shape := ⟨4, ![4, 16, 2560, 128]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S32 : Shape := ⟨1, ![32]⟩
abbrev S32x1 : Shape := ⟨2, ![32, 1]⟩
abbrev S32x4 : Shape := ⟨2, ![32, 4]⟩
abbrev S32x4x16x576x128 : Shape := ⟨5, ![32, 4, 16, 576, 128]⟩
abbrev S32x4x16x64x576 : Shape := ⟨5, ![32, 4, 16, 64, 576]⟩
abbrev S1x16x64x576 : Shape := ⟨4, ![1, 16, 64, 576]⟩
abbrev S1x1x16x64x576 : Shape := ⟨5, ![1, 1, 16, 64, 576]⟩
abbrev S32x576 : Shape := ⟨2, ![32, 576]⟩
abbrev S4x16x64x576 : Shape := ⟨4, ![4, 16, 64, 576]⟩
abbrev S32x4x16x64 : Shape := ⟨4, ![32, 4, 16, 64]⟩
abbrev S32x4x16x64x1 : Shape := ⟨5, ![32, 4, 16, 64, 1]⟩

abbrev nBuf : Space → Nat
  | .hbm => 162
  | .vmem => 0
  | .smem => 0
  | _ => 0

abbrev hbmTy0_0 (i : Nat) : BufTy := match i % 128 with
  | 0 => ⟨S8192x26624, .bf16⟩
  | 1 => ⟨S16x192, .f32⟩
  | 2 => ⟨S128, .f32⟩
  | 3 => ⟨S128, .f32⟩
  | 4 => ⟨S8192x2048, .bf16⟩
  | 5 => ⟨S8192x2048, .f32⟩
  | 6 => ⟨S4x2048x16x128, .f32⟩
  | 7 => ⟨S8192x2048, .bf16⟩
  | 8 => ⟨S8192x2048, .f32⟩
  | 9 => ⟨S4x2048x16x128, .f32⟩
  | 10 => ⟨S8192x2048, .bf16⟩
  | 11 => ⟨S8192x2048, .f32⟩
  | 12 => ⟨S4x2048x16x128, .f32⟩
  | 13 => ⟨S4x2048x16x128, .f32⟩
  | 14 => ⟨S_, .f32⟩
  | 15 => ⟨S4x2048x16, .f32⟩
  | 16 => ⟨S4x2048x16x1, .f32⟩
  | 17 => ⟨S_, .f32⟩
  | 18 => ⟨S4x2048x16x1, .f32⟩
  | 19 => ⟨S4x2048x16x1, .f32⟩
  | 20 => ⟨S_, .f32⟩
  | 21 => ⟨S4x2048x16x1, .f32⟩
  | 22 => ⟨S4x2048x16x1, .f32⟩
  | 23 => ⟨S4x2048x16x1, .f32⟩
  | 24 => ⟨S4x2048x16x128, .f32⟩
  | 25 => ⟨S4x2048x16x128, .f32⟩
  | 26 => ⟨S1x1x1x128, .f32⟩
  | 27 => ⟨S4x2048x16x128, .f32⟩
  | 28 => ⟨S4x2048x16x128, .f32⟩
  | 29 => ⟨S4x2048x16x128, .f32⟩
  | 30 => ⟨S_, .f32⟩
  | 31 => ⟨S4x2048x16, .f32⟩
  | 32 => ⟨S4x2048x16x1, .f32⟩
  | 33 => ⟨S_, .f32⟩
  | 34 => ⟨S4x2048x16x1, .f32⟩
  | 35 => ⟨S4x2048x16x1, .f32⟩
  | 36 => ⟨S_, .f32⟩
  | 37 => ⟨S4x2048x16x1, .f32⟩
  | 38 => ⟨S4x2048x16x1, .f32⟩
  | 39 => ⟨S4x2048x16x1, .f32⟩
  | 40 => ⟨S4x2048x16x128, .f32⟩
  | 41 => ⟨S4x2048x16x128, .f32⟩
  | 42 => ⟨S1x1x1x128, .f32⟩
  | 43 => ⟨S4x2048x16x128, .f32⟩
  | 44 => ⟨S4x2048x16x128, .f32⟩
  | 45 => ⟨S4x32x64x16x128, .f32⟩
  | 46 => ⟨S32x4x16x64x128, .f32⟩
  | 47 => ⟨S4x16x2048x128, .f32⟩
  | 48 => ⟨S_, .i32⟩
  | 49 => ⟨S_, .f32⟩
  | 50 => ⟨S4x16x2560x128, .f32⟩
  | 51 => ⟨S4x16x2048x128, .f32⟩
  | 52 => ⟨S_, .i32⟩
  | 53 => ⟨S_, .f32⟩
  | 54 => ⟨S4x16x2560x128, .f32⟩
  | 55 => ⟨S64, .i32⟩
  | 56 => ⟨S576, .i32⟩
  | 57 => ⟨S64x1, .i32⟩
  | 58 => ⟨S_, .i32⟩
  | 59 => ⟨S64x1, .i32⟩
  | 60 => ⟨S64x1, .i32⟩
  | 61 => ⟨S1x576, .i32⟩
  | 62 => ⟨S64x576, .i32⟩
  | 63 => ⟨S64x576, .i32⟩
  | 64 => ⟨S64x576, .i32⟩
  | 65 => ⟨S_, .i32⟩
  | 66 => ⟨S64x576, .i32⟩
  | 67 => ⟨S64x576, .i32⟩
  | 68 => ⟨S_, .i32⟩
  | 69 => ⟨S64x576, .i32⟩
  | 70 => ⟨S64x576, .i32⟩
  | 71 => ⟨S_, .i32⟩
  | 72 => ⟨S64x576, .i32⟩
  | 73 => ⟨S64x576, .i1⟩
  | 74 => ⟨S_, .i32⟩
  | 75 => ⟨S64x576, .i32⟩
  | 76 => ⟨S64x576, .i32⟩
  | 77 => ⟨S64x576, .i32⟩
  | 78 => ⟨S64x576x1, .i32⟩
  | 79 => ⟨S16x64x576, .f32⟩
  | 80 => ⟨S32, .i32⟩
  | 81 => ⟨S_, .i32⟩
  | 82 => ⟨S32, .i32⟩
  | 83 => ⟨S32, .i32⟩
  | 84 => ⟨S_, .i32⟩
  | 85 => ⟨S32, .i32⟩
  | 86 => ⟨S32, .i1⟩
  | 87 => ⟨S_, .i32⟩
  | 88 => ⟨S32, .i32⟩
  | 89 => ⟨S32, .i32⟩
  | 90 => ⟨S32, .i32⟩
  | 91 => ⟨S_, .i32⟩
  | 92 => ⟨S32x1, .i32⟩
  | 93 => ⟨S_, .i32⟩
  | 94 => ⟨S32x1, .i32⟩
  | 95 => ⟨S32x1, .i32⟩
  | 96 => ⟨S_, .i32⟩
  | 97 => ⟨S32x1, .i32⟩
  | 98 => ⟨S32x4, .i32⟩
  | 99 => ⟨S32x4x16x576x128, .f32⟩
  | 100 => ⟨S_, .i32⟩
  | 101 => ⟨S32, .i32⟩
  | 102 => ⟨S32, .i32⟩
  | 103 => ⟨S_, .i32⟩
  | 104 => ⟨S32, .i32⟩
  | 105 => ⟨S32, .i1⟩
  | 106 => ⟨S_, .i32⟩
  | 107 => ⟨S32, .i32⟩
  | 108 => ⟨S32, .i32⟩
  | 109 => ⟨S32, .i32⟩
  | 110 => ⟨S_, .i32⟩
  | 111 => ⟨S32x1, .i32⟩
  | 112 => ⟨S_, .i32⟩
  | 113 => ⟨S32x1, .i32⟩
  | 114 => ⟨S32x1, .i32⟩
  | 115 => ⟨S_, .i32⟩
  | 116 => ⟨S32x1, .i32⟩
  | 117 => ⟨S32x4, .i32⟩
  | 118 => ⟨S32x4x16x576x128, .f32⟩
  | 119 => ⟨S32x4x16x64x576, .f32⟩
  | 120 => ⟨S_, .f32⟩
  | 121 => ⟨S32x4x16x64x576, .f32⟩
  | 122 => ⟨S32x4x16x64x576, .f32⟩
  | 123 => ⟨S1x16x64x576, .f32⟩
  | 124 => ⟨S1x1x16x64x576, .f32⟩
  | 125 => ⟨S32x4x16x64x576, .f32⟩
  | 126 => ⟨S32x4x16x64x576, .f32⟩
  | 127 => ⟨S_, .i32⟩
  | _ => ⟨S8192x26624, .bf16⟩

abbrev hbmTy0_1 (i : Nat) : BufTy := match i % 128 with
  | 0 => ⟨S32, .i32⟩
  | 1 => ⟨S32, .i32⟩
  | 2 => ⟨S_, .i32⟩
  | 3 => ⟨S32, .i32⟩
  | 4 => ⟨S32, .i32⟩
  | 5 => ⟨S1x576, .i32⟩
  | 6 => ⟨S32x1, .i32⟩
  | 7 => ⟨S32x576, .i32⟩
  | 8 => ⟨S32x576, .i32⟩
  | 9 => ⟨S32x576, .i1⟩
  | 10 => ⟨S_, .f32⟩
  | 11 => ⟨S_, .f32⟩
  | 12 => ⟨S32x4x16x64x576, .i1⟩
  | 13 => ⟨S4x16x64x576, .f32⟩
  | 14 => ⟨S32x4x16x64x576, .f32⟩
  | 15 => ⟨S32x4x16x64x576, .f32⟩
  | 16 => ⟨S_, .f32⟩
  | 17 => ⟨S32x4x16x64, .f32⟩
  | 18 => ⟨S_, .f32⟩
  | 19 => ⟨S32x4x16x64, .f32⟩
  | 20 => ⟨S32x4x16x64, .f32⟩
  | 21 => ⟨S32x4x16x64x1, .f32⟩
  | 22 => ⟨S32x4x16x64x576, .f32⟩
  | 23 => ⟨S32x4x16x64x576, .f32⟩
  | 24 => ⟨S32x4x16x64x576, .f32⟩
  | 25 => ⟨S_, .f32⟩
  | 26 => ⟨S32x4x16x64, .f32⟩
  | 27 => ⟨S32x4x16x64x1, .f32⟩
  | 28 => ⟨S32x4x16x64x576, .f32⟩
  | 29 => ⟨S32x4x16x64x576, .f32⟩
  | 30 => ⟨S32x4x16x64x128, .f32⟩
  | 31 => ⟨S4x32x64x16x128, .f32⟩
  | 32 => ⟨S8192x2048, .f32⟩
  | 33 => ⟨S8192x2048, .bf16⟩
  | _ => ⟨S8192x26624, .bf16⟩

abbrev hbmTy (i : Nat) : BufTy := match i / 128 with
  | 0 => hbmTy0_0 i
  | 1 => hbmTy0_1 i
  | _ => ⟨S8192x26624, .bf16⟩

abbrev bufTy : (tb : Table) → Fin (tcTables nBuf tb) → BufTy
  | .hbm, ⟨i, _⟩ => hbmTy i
  | _, _ => ⟨S8192x26624, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c : Ref sig .tc := ⟨.hbm, 48, rfl⟩
abbrev main_call0_v0 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_call1_v0 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_7 : Ref sig .tc := ⟨.hbm, 65, rfl⟩
abbrev main_v50 : Ref sig .tc := ⟨.hbm, 66, rfl⟩
abbrev main_v51 : Ref sig .tc := ⟨.hbm, 67, rfl⟩
abbrev main_c_8 : Ref sig .tc := ⟨.hbm, 68, rfl⟩
abbrev main_v52 : Ref sig .tc := ⟨.hbm, 69, rfl⟩
abbrev main_v53 : Ref sig .tc := ⟨.hbm, 70, rfl⟩
abbrev main_c_9 : Ref sig .tc := ⟨.hbm, 71, rfl⟩
abbrev main_v54 : Ref sig .tc := ⟨.hbm, 72, rfl⟩
abbrev main_v55 : Ref sig .tc := ⟨.hbm, 73, rfl⟩
abbrev main_c_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_11 : Ref sig .tc := ⟨.hbm, 81, rfl⟩
abbrev main_v62 : Ref sig .tc := ⟨.hbm, 82, rfl⟩
abbrev main_v63 : Ref sig .tc := ⟨.hbm, 83, rfl⟩
abbrev main_c_12 : Ref sig .tc := ⟨.hbm, 84, rfl⟩
abbrev main_v64 : Ref sig .tc := ⟨.hbm, 85, rfl⟩
abbrev main_v65 : Ref sig .tc := ⟨.hbm, 86, rfl⟩
abbrev main_c_13 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_14 : Ref sig .tc := ⟨.hbm, 91, rfl⟩
abbrev main_v69 : Ref sig .tc := ⟨.hbm, 92, rfl⟩
abbrev main_c_15 : Ref sig .tc := ⟨.hbm, 93, rfl⟩
abbrev main_v70 : Ref sig .tc := ⟨.hbm, 94, rfl⟩
abbrev main_v71 : Ref sig .tc := ⟨.hbm, 95, rfl⟩
abbrev main_c_16 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_17 : Ref sig .tc := ⟨.hbm, 100, rfl⟩
abbrev main_v75 : Ref sig .tc := ⟨.hbm, 101, rfl⟩
abbrev main_v76 : Ref sig .tc := ⟨.hbm, 102, rfl⟩
abbrev main_c_18 : Ref sig .tc := ⟨.hbm, 103, rfl⟩
abbrev main_v77 : Ref sig .tc := ⟨.hbm, 104, rfl⟩
abbrev main_v78 : Ref sig .tc := ⟨.hbm, 105, rfl⟩
abbrev main_c_19 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_20 : Ref sig .tc := ⟨.hbm, 110, rfl⟩
abbrev main_v82 : Ref sig .tc := ⟨.hbm, 111, rfl⟩
abbrev main_c_21 : Ref sig .tc := ⟨.hbm, 112, rfl⟩
abbrev main_v83 : Ref sig .tc := ⟨.hbm, 113, rfl⟩
abbrev main_v84 : Ref sig .tc := ⟨.hbm, 114, rfl⟩
abbrev main_c_22 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_23 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_c_24 : Ref sig .tc := ⟨.hbm, 127, rfl⟩
abbrev main_v95 : Ref sig .tc := ⟨.hbm, 128, rfl⟩
abbrev main_v96 : Ref sig .tc := ⟨.hbm, 129, rfl⟩
abbrev main_c_25 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_26 : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_call2_v3 : Ref sig .tc := ⟨.hbm, 142, rfl⟩
abbrev main_v104 : Ref sig .tc := ⟨.hbm, 143, rfl⟩
abbrev main_cst_27 : Ref sig .tc := ⟨.hbm, 144, rfl⟩
abbrev main_v105 : Ref sig .tc := ⟨.hbm, 145, rfl⟩
abbrev main_cst_28 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_29 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩

abbrev nD : Nat := 1
abbrev τ : Topo := Topo.v7x

variable {F : FTy → Type} [FloatOps F]
-- ==== Kernel2.lean ====
abbrev S8192x4096 : Shape := ⟨2, ![8192, 4096]⟩
abbrev S1x4096x26624 : Shape := ⟨3, ![1, 4096, 26624]⟩
abbrev S8192x26624 : Shape := ⟨2, ![8192, 26624]⟩
abbrev S2048x4096 : Shape := ⟨2, ![2048, 4096]⟩
abbrev S1x4096x512 : Shape := ⟨3, ![1, 4096, 512]⟩
abbrev S2048x512 : Shape := ⟨2, ![2048, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x26624, .f32⟩
  | .hbm, ⟨2, _⟩ => ⟨S8192x26624, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x512, .f32⟩
  | .local _ .vmem, ⟨3, _⟩ => ⟨S1x4096x512, .f32⟩
  | .local _ .vmem, ⟨4, _⟩ => ⟨S2048x512, .bf16⟩
  | .local _ .vmem, ⟨5, _⟩ => ⟨S2048x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![52, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x4096 : Shape := ⟨2, ![8192, 4096]⟩
abbrev S1x4096x26624 : Shape := ⟨3, ![1, 4096, 26624]⟩
abbrev S4096x26624 : Shape := ⟨2, ![4096, 26624]⟩
abbrev S8192x26624 : Shape := ⟨2, ![8192, 26624]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x26624, .f32⟩
  | .hbm, ⟨2, _⟩ => ⟨S8192x4096, .f32⟩
  | .hbm, ⟨3, _⟩ => ⟨S4096x26624, .f32⟩
  | .hbm, ⟨4, _⟩ => ⟨S8192x26624, .f32⟩
  | .hbm, ⟨5, _⟩ => ⟨S8192x26624, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S8192x4096 : Shape := ⟨2, ![8192, 4096]⟩
abbrev S8192x2048 : Shape := ⟨2, ![8192, 2048]⟩
abbrev S1x4096x4096 : Shape := ⟨3, ![1, 4096, 4096]⟩
abbrev S1x2048x4096 : Shape := ⟨3, ![1, 2048, 4096]⟩
abbrev S8192x26624 : Shape := ⟨2, ![8192, 26624]⟩
abbrev S1024x4096 : Shape := ⟨2, ![1024, 4096]⟩
abbrev S1024x2048 : Shape := ⟨2, ![1024, 2048]⟩
abbrev S1x4096x512 : Shape := ⟨3, ![1, 4096, 512]⟩
abbrev S1x2048x512 : Shape := ⟨3, ![1, 2048, 512]⟩
abbrev S1024x512 : Shape := ⟨2, ![1024, 512]⟩
abbrev S4096x512 : Shape := ⟨2, ![4096, 512]⟩
abbrev S2048x512 : Shape := ⟨2, ![2048, 512]⟩

abbrev nBuf : Space → Nat
  | .hbm => 6
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S1x4096x4096, .f32⟩
  | .hbm, ⟨3, _⟩ => ⟨S1x2048x4096, .f32⟩
  | .hbm, ⟨4, _⟩ => ⟨S8192x26624, .bf16⟩
  | .hbm, ⟨5, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x2048, .bf16⟩
  | .local _ .vmem, ⟨3, _⟩ => ⟨S1024x2048, .bf16⟩
  | .local _ .vmem, ⟨4, _⟩ => ⟨S1x4096x512, .f32⟩
  | .local _ .vmem, ⟨5, _⟩ => ⟨S1x4096x512, .f32⟩
  | .local _ .vmem, ⟨6, _⟩ => ⟨S1x2048x512, .f32⟩
  | .local _ .vmem, ⟨7, _⟩ => ⟨S1x2048x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8192x4096 : Shape := ⟨2, ![8192, 4096]⟩
abbrev S8192x2048 : Shape := ⟨2, ![8192, 2048]⟩
abbrev S1x4096x4096 : Shape := ⟨3, ![1, 4096, 4096]⟩
abbrev S1x2048x4096 : Shape := ⟨3, ![1, 2048, 4096]⟩
abbrev S8192x26624 : Shape := ⟨2, ![8192, 26624]⟩
abbrev S4096x4096 : Shape := ⟨2, ![4096, 4096]⟩
abbrev S2048x4096 : Shape := ⟨2, ![2048, 4096]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S1x4096x4096, .f32⟩
  | .hbm, ⟨3, _⟩ => ⟨S1x2048x4096, .f32⟩
  | .hbm, ⟨4, _⟩ => ⟨S8192x26624, .bf16⟩
  | .hbm, ⟨5, _⟩ => ⟨S8192x4096, .bf16⟩
  | .hbm, ⟨6, _⟩ => ⟨S8192x4096, .f32⟩
  | .hbm, ⟨7, _⟩ => ⟨S8192x4096, .bf16⟩
  | .hbm, ⟨8, _⟩ => ⟨S8192x4096, .f32⟩
  | .hbm, ⟨9, _⟩ => ⟨S8192x4096, .f32⟩
  | .hbm, ⟨10, _⟩ => ⟨S4096x4096, .f32⟩
  | .hbm, ⟨11, _⟩ => ⟨S8192x4096, .f32⟩
  | .hbm, ⟨12, _⟩ => ⟨S8192x2048, .f32⟩
  | .hbm, ⟨13, _⟩ => ⟨S2048x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel4.lean ====
abbrev S8192x4096 : Shape := ⟨2, ![8192, 4096]⟩
abbrev S1x4096x4096 : Shape := ⟨3, ![1, 4096, 4096]⟩
abbrev S24x1x4096 : Shape := ⟨3, ![24, 1, 4096]⟩
abbrev S1024x4096 : Shape := ⟨2, ![1024, 4096]⟩
abbrev S1x4096x512 : Shape := ⟨3, ![1, 4096, 512]⟩
abbrev S1024x512 : Shape := ⟨2, ![1024, 512]⟩
abbrev S1x1x512 : Shape := ⟨3, ![1, 1, 512]⟩
abbrev S4096x512 : Shape := ⟨2, ![4096, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S24x1x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c2_i32 : BitVec 32 := 2#32
  let v19 : BitVec 32 := Scalar.addi v18 c2_i32
  let c0_i32_4 : BitVec 32 := 0#32
  let c0_i32_5 : BitVec 32 := 0#32
  ![v19.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x4096 : Shape := ⟨2, ![8192, 4096]⟩
abbrev S1x4096x4096 : Shape := ⟨3, ![1, 4096, 4096]⟩
abbrev S24x1x4096 : Shape := ⟨3, ![24, 1, 4096]⟩
abbrev S4x6x4096 : Shape := ⟨3, ![4, 6, 4096]⟩
abbrev S4x6x1x4096 : Shape := ⟨4, ![4, 6, 1, 4096]⟩
abbrev S4x1x1x4096 : Shape := ⟨4, ![4, 1, 1, 4096]⟩
abbrev S4x1x4096 : Shape := ⟨3, ![4, 1, 4096]⟩
abbrev S4x2048x4096 : Shape := ⟨3, ![4, 2048, 4096]⟩
abbrev S4096x4096 : Shape := ⟨2, ![4096, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S24x1x4096, .f32⟩
  | .hbm, ⟨4, _⟩ => ⟨S4x6x4096, .f32⟩
  | .hbm, ⟨5, _⟩ => ⟨S4x6x1x4096, .f32⟩
  | .hbm, ⟨6, _⟩ => ⟨S4x1x1x4096, .f32⟩
  | .hbm, ⟨7, _⟩ => ⟨S4x1x4096, .f32⟩
  | .hbm, ⟨8, _⟩ => ⟨S4x2048x4096, .f32⟩
  | .hbm, ⟨9, _⟩ => ⟨S8192x4096, .f32⟩
  | .hbm, ⟨10, _⟩ => ⟨S4x2048x4096, .f32⟩
  | .hbm, ⟨11, _⟩ => ⟨S4096x4096, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel5.lean ====
abbrev S4x4096 : Shape := ⟨2, ![4, 4096]⟩
abbrev S1x4096x24576 : Shape := ⟨3, ![1, 4096, 24576]⟩
abbrev S1x24576 : Shape := ⟨2, ![1, 24576]⟩
abbrev S_ : Shape := ⟨0, ![]⟩
abbrev S8x4096 : Shape := ⟨2, ![8, 4096]⟩
abbrev S1 : Shape := ⟨1, ![1]⟩
abbrev S1x1x24576 : Shape := ⟨3, ![1, 1, 24576]⟩
abbrev S8x24576 : Shape := ⟨2, ![8, 24576]⟩
abbrev S1x4096x1024 : Shape := ⟨3, ![1, 4096, 1024]⟩
abbrev S1x1x1024 : Shape := ⟨3, ![1, 1, 1024]⟩
abbrev S8x1024 : Shape := ⟨2, ![8, 1024]⟩
abbrev S4096x1024 : Shape := ⟨2, ![4096, 1024]⟩
abbrev S1x1024 : Shape := ⟨2, ![1, 1024]⟩
abbrev S4x24576 : Shape := ⟨2, ![4, 24576]⟩
abbrev S24x1x4096 : Shape := ⟨3, ![24, 1, 4096]⟩

abbrev nBuf : Space → Nat
  | .hbm => 12
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S1x4096x24576, .f32⟩
  | .hbm, ⟨2, _⟩ => ⟨S1x24576, .f32⟩
  | .hbm, ⟨3, _⟩ => ⟨S_, .f32⟩
  | .hbm, ⟨4, _⟩ => ⟨S8x4096, .f32⟩
  | .hbm, ⟨5, _⟩ => ⟨S_, .i32⟩
  | .hbm, ⟨6, _⟩ => ⟨S1, .i32⟩
  | .hbm, ⟨7, _⟩ => ⟨S8x4096, .f32⟩
  | .hbm, ⟨8, _⟩ => ⟨S1x1x24576, .f32⟩
  | .hbm, ⟨9, _⟩ => ⟨S8x24576, .f32⟩
  | .hbm, ⟨10, _⟩ => ⟨S4x24576, .f32⟩
  | .hbm, ⟨11, _⟩ => ⟨S24x1x4096, .f32⟩
  | .local _ .vmem, ⟨0, _⟩ => ⟨S8x4096, .f32⟩
  | .local _ .vmem, ⟨1, _⟩ => ⟨S1x4096x1024, .f32⟩
  | .local _ .vmem, ⟨2, _⟩ => ⟨S1x4096x1024, .f32⟩
  | .local _ .vmem, ⟨3, _⟩ => ⟨S1x1x1024, .f32⟩
  | .local _ .vmem, ⟨4, _⟩ => ⟨S1x1x1024, .f32⟩
  | .local _ .vmem, ⟨5, _⟩ => ⟨S8x1024, .f32⟩
  | .local _ .vmem, ⟨6, _⟩ => ⟨S8x1024, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4x4096 : Shape := ⟨2, ![4, 4096]⟩
abbrev S1x4096x24576 : Shape := ⟨3, ![1, 4096, 24576]⟩
abbrev S1x24576 : Shape := ⟨2, ![1, 24576]⟩
abbrev S_ : Shape := ⟨0, ![]⟩
abbrev S4096x24576 : Shape := ⟨2, ![4096, 24576]⟩
abbrev S4x24576 : Shape := ⟨2, ![4, 24576]⟩
abbrev S24576 : Shape := ⟨1, ![24576]⟩
abbrev S4x6x4096 : Shape := ⟨3, ![4, 6, 4096]⟩
abbrev S24x1x4096 : Shape := ⟨3, ![24, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S1x4096x24576, .f32⟩
  | .hbm, ⟨2, _⟩ => ⟨S1x24576, .f32⟩
  | .hbm, ⟨3, _⟩ => ⟨S4x4096, .f32⟩
  | .hbm, ⟨4, _⟩ => ⟨S4x4096, .f32⟩
  | .hbm, ⟨5, _⟩ => ⟨S_, .f32⟩
  | .hbm, ⟨6, _⟩ => ⟨S4x4096, .f32⟩
  | .hbm, ⟨7, _⟩ => ⟨S4x4096, .f32⟩
  | .hbm, ⟨8, _⟩ => ⟨S_, .f32⟩
  | .hbm, ⟨9, _⟩ => ⟨S4x4096, .f32⟩
  | .hbm, ⟨10, _⟩ => ⟨S4x4096, .f32⟩
  | .hbm, ⟨11, _⟩ => ⟨S4x4096, .f32⟩
  | .hbm, ⟨12, _⟩ => ⟨S4096x24576, .f32⟩
  | .hbm, ⟨13, _⟩ => ⟨S4x24576, .f32⟩
  | .hbm, ⟨14, _⟩ => ⟨S24576, .f32⟩
  | .hbm, ⟨15, _⟩ => ⟨S1x24576, .f32⟩
  | .hbm, ⟨16, _⟩ => ⟨S4x24576, .f32⟩
  | .hbm, ⟨17, _⟩ => ⟨S4x24576, .f32⟩
  | .hbm, ⟨18, _⟩ => ⟨S4x6x4096, .f32⟩
  | .hbm, ⟨19, _⟩ => ⟨S24x1x4096, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel6.lean ====
abbrev S8192x4096 : Shape := ⟨2, ![8192, 4096]⟩
abbrev S1x4096 : Shape := ⟨2, ![1, 4096]⟩
abbrev S24x1x4096 : Shape := ⟨3, ![24, 1, 4096]⟩
abbrev S1x1x4096 : Shape := ⟨3, ![1, 1, 4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S24x1x4096, .f32⟩
  | .hbm, ⟨3, _⟩ => ⟨S1x1x4096, .f32⟩
  | .hbm, ⟨4, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S512x4096, .bf16⟩
  | .local _ .vmem, ⟨8, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c1_i32_4 : BitVec 32 := 1#32
  let v19 : BitVec 32 := Scalar.addi v18 c1_i32_4
  let c0_i32_5 : BitVec 32 := 0#32
  let c0_i32_6 : BitVec 32 := 0#32
  let c0_i32_7 : BitVec 32 := 0#32
  ![v19.toNat, c0_i32_5.toNat, c0_i32_6.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c0_i32_4 : BitVec 32 := 0#32
  let v19 : BitVec 32 := Scalar.addi v18 c0_i32_4
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8192x4096 : Shape := ⟨2, ![8192, 4096]⟩
abbrev S1x4096 : Shape := ⟨2, ![1, 4096]⟩
abbrev S24x1x4096 : Shape := ⟨3, ![24, 1, 4096]⟩
abbrev S4x6x4096 : Shape := ⟨3, ![4, 6, 4096]⟩
abbrev S4x6x1x4096 : Shape := ⟨4, ![4, 6, 1, 4096]⟩
abbrev S4x1x1x4096 : Shape := ⟨4, ![4, 1, 1, 4096]⟩
abbrev S4x1x4096 : Shape := ⟨3, ![4, 1, 4096]⟩
abbrev S4x2048x4096 : Shape := ⟨3, ![4, 2048, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S24x1x4096, .f32⟩
  | .hbm, ⟨3, _⟩ => ⟨S4x6x4096, .f32⟩
  | .hbm, ⟨4, _⟩ => ⟨S4x6x1x4096, .f32⟩
  | .hbm, ⟨5, _⟩ => ⟨S4x1x1x4096, .f32⟩
  | .hbm, ⟨6, _⟩ => ⟨S4x1x4096, .f32⟩
  | .hbm, ⟨7, _⟩ => ⟨S4x1x1x4096, .f32⟩
  | .hbm, ⟨8, _⟩ => ⟨S4x1x4096, .f32⟩
  | .hbm, ⟨9, _⟩ => ⟨S4x2048x4096, .f32⟩
  | .hbm, ⟨10, _⟩ => ⟨S4096, .f32⟩
  | .hbm, ⟨11, _⟩ => ⟨S4x2048x4096, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x4096, .f32⟩
  | .hbm, ⟨23, _⟩ => ⟨S4x2048x4096, .f32⟩
  | .hbm, ⟨24, _⟩ => ⟨S1x1x4096, .f32⟩
  | .hbm, ⟨25, _⟩ => ⟨S4x2048x4096, .f32⟩
  | .hbm, ⟨26, _⟩ => ⟨S4x2048x4096, .f32⟩
  | .hbm, ⟨27, _⟩ => ⟨S_, .f32⟩
  | .hbm, ⟨28, _⟩ => ⟨S4x1x4096, .f32⟩
  | .hbm, ⟨29, _⟩ => ⟨S4x1x4096, .f32⟩
  | .hbm, ⟨30, _⟩ => ⟨S4x2048x4096, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S8192x4096, .f32⟩
  | .hbm, ⟨35, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel7.lean ====
abbrev S8192x26624 : Shape := ⟨2, ![8192, 26624]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S8 : Shape := ⟨1, ![8]⟩
abbrev S8x1x1 : Shape := ⟨3, ![8, 1, 1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S8x256x256 : Shape := ⟨3, ![8, 256, 256]⟩
abbrev S1x256x1 : Shape := ⟨3, ![1, 256, 1]⟩
abbrev S8x256x1 : Shape := ⟨3, ![8, 256, 1]⟩
abbrev S8x1x512 : Shape := ⟨3, ![8, 1, 512]⟩
abbrev S8192x4096 : Shape := ⟨2, ![8192, 4096]⟩
abbrev S256x2048 : Shape := ⟨2, ![256, 2048]⟩
abbrev S256x4096 : Shape := ⟨2, ![256, 4096]⟩
abbrev S256x128 : Shape := ⟨2, ![256, 128]⟩
abbrev S8x256x512 : Shape := ⟨3, ![8, 256, 512]⟩
abbrev S256x512 : Shape := ⟨2, ![256, 512]⟩
abbrev S1x256x512 : Shape := ⟨3, ![1, 256, 512]⟩
abbrev S1x1x512 : Shape := ⟨3, ![1, 1, 512]⟩
abbrev S1x512 : Shape := ⟨2, ![1, 512]⟩

abbrev nBuf : Space → Nat
  | .hbm => 89
  | .vmem => 19
  | .smem => 0
  | _ => 0

abbrev bufTy : (tb : Table) → Fin (tcTables nBuf tb) → BufTy
  | .hbm, ⟨0, _⟩ => ⟨S8192x26624, .bf16⟩
  | .hbm, ⟨1, _⟩ => ⟨S128, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S2048, .f32⟩
  | .hbm, ⟨10, _⟩ => ⟨S2048x1, .f32⟩
  | .hbm, ⟨11, _⟩ => ⟨S1x128, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S8x1x1, .f32⟩
  | .hbm, ⟨27, _⟩ => ⟨S256, .f32⟩
  | .hbm, ⟨28, _⟩ => ⟨S256x1, .f32⟩
  | .hbm, ⟨29, _⟩ => ⟨S1x256, .f32⟩
  | .hbm, ⟨30, _⟩ => ⟨S_, .f32⟩
  | .hbm, ⟨31, _⟩ => ⟨S256x1, .f32⟩
  | .hbm, ⟨32, _⟩ => ⟨S256x1, .f32⟩
  | .hbm, ⟨33, _⟩ => ⟨S256x1, .f32⟩
  | .hbm, ⟨34, _⟩ => ⟨S_, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S256x256, .f32⟩
  | .hbm, ⟨39, _⟩ => ⟨S256x256, .f32⟩
  | .hbm, ⟨40, _⟩ => ⟨S256x256, .i1⟩
  | .hbm, ⟨41, _⟩ => ⟨S256x256, .f32⟩
  | .hbm, ⟨42, _⟩ => ⟨S256x256, .f32⟩
  | .hbm, ⟨43, _⟩ => ⟨S256x256, .f32⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S256x256, .f32⟩
  | .hbm, ⟨48, _⟩ => ⟨S256x256, .f32⟩
  | .hbm, ⟨49, _⟩ => ⟨S256x256, .f32⟩
  | .hbm, ⟨50, _⟩ => ⟨S256x256, .f32⟩
  | .hbm, ⟨51, _⟩ => ⟨S256x256, .i1⟩
  | .hbm, ⟨52, _⟩ => ⟨S1x256x256, .i1⟩
  | .hbm, ⟨53, _⟩ => ⟨S1x256x256, .f32⟩
  | .hbm, ⟨54, _⟩ => ⟨S8x256x256, .f32⟩
  | .hbm, ⟨55, _⟩ => ⟨S8x256x256, .f32⟩
  | .hbm, ⟨56, _⟩ => ⟨S8x256x256, .f32⟩
  | .hbm, ⟨57, _⟩ => ⟨S8x256x256, .f32⟩
  | .hbm, ⟨58, _⟩ => ⟨S_, .f32⟩
  | .hbm, ⟨59, _⟩ => ⟨S_, .f32⟩
  | .hbm, ⟨60, _⟩ => ⟨S8x256x256, .i1⟩
  | .hbm, ⟨61, _⟩ => ⟨S8x256x256, .f32⟩
  | .hbm, ⟨62, _⟩ => ⟨S8x256x256, .f32⟩
  | .hbm, ⟨63, _⟩ => ⟨S1x256x1, .f32⟩
  | .hbm, ⟨64, _⟩ => ⟨S_, .f32⟩
  | .hbm, ⟨65, _⟩ => ⟨S1x256x1, .f32⟩
  | .hbm, ⟨66, _⟩ => ⟨S1x256x1, .f32⟩
  | .hbm, ⟨67, _⟩ => ⟨S8x256x1, .f32⟩
  | .hbm, ⟨68, _⟩ => ⟨S8x256x1, .f32⟩
  | .hbm, ⟨69, _⟩ => ⟨S8x256x1, .f32⟩
  | .hbm, ⟨70, _⟩ => ⟨S8x256x1, .f32⟩
  | .hbm, ⟨71, _⟩ => ⟨S8x256x256, .f32⟩
  | .hbm, ⟨72, _⟩ => ⟨S1x256x1, .f32⟩
  | .hbm, ⟨73, _⟩ => ⟨S_, .f32⟩
  | .hbm, ⟨74, _⟩ => ⟨S1x256x1, .f32⟩
  | .hbm, ⟨75, _⟩ => ⟨S1x256x1, .f32⟩
  | .hbm, ⟨76, _⟩ => ⟨S8x256x1, .f32⟩
  | .hbm, ⟨77, _⟩ => ⟨S8x256x1, .f32⟩
  | .hbm, ⟨78, _⟩ => ⟨S8x256x1, .f32⟩
  | .hbm, ⟨79, _⟩ => ⟨S8x256x1, .f32⟩
  | .hbm, ⟨80, _⟩ => ⟨S8x256x256, .f32⟩
  | .hbm, ⟨81, _⟩ => ⟨S_, .f32⟩
  | .hbm, ⟨82, _⟩ => ⟨S8x1x1, .f32⟩
  | .hbm, ⟨83, _⟩ => ⟨S8x1x1, .f32⟩
  | .hbm, ⟨84, _⟩ => ⟨S8x1x1, .f32⟩
  | .hbm, ⟨85, _⟩ => ⟨S8x1x512, .f32⟩
  | .hbm, ⟨86, _⟩ => ⟨S2048x128, .f32⟩
  | .hbm, ⟨87, _⟩ => ⟨S2048x128, .f32⟩
  | .hbm, ⟨88, _⟩ => ⟨S8192x4096, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S8x256x256, .f32⟩
  | .local _ .vmem, ⟨13, _⟩ => ⟨S8x256x256, .f32⟩
  | .local _ .vmem, ⟨14, _⟩ => ⟨S8x256x256, .f32⟩
  | .local _ .vmem, ⟨15, _⟩ => ⟨S8x1x512, .f32⟩
  | .local _ .vmem, ⟨16, _⟩ => ⟨S256x4096, .bf16⟩
  | .local _ .vmem, ⟨17, _⟩ => ⟨S256x4096, .bf16⟩
  | .local _ .vmem, ⟨18, _⟩ => ⟨S8x256x512, .f32⟩
  | _, _ => ⟨S8192x26624, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_4 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_5 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_6 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_8 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_9 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S8x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S8x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S8x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 1 → Memref sig .tc .vmem S8x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Reference7Ideal.lean ====
abbrev S8192x26624 : Shape := ⟨2, ![8192, 26624]⟩
abbrev S8192x2048 : Shape := ⟨2, ![8192, 2048]⟩
abbrev S8192x4096 : Shape := ⟨2, ![8192, 4096]⟩
abbrev S4x2048x8x256 : Shape := ⟨4, ![4, 2048, 8, 256]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S4x2048x8x128 : Shape := ⟨4, ![4, 2048, 8, 128]⟩
abbrev S4x2048x8x512 : Shape := ⟨4, ![4, 2048, 8, 512]⟩
abbrev S8 : Shape := ⟨1, ![8]⟩
abbrev S1x2048 : Shape := ⟨2, ![1, 2048]⟩
abbrev S2048x2048 : Shape := ⟨2, ![2048, 2048]⟩
abbrev S8x1x1 : Shape := ⟨3, ![8, 1, 1]⟩
abbrev S1x2048x2048 : Shape := ⟨3, ![1, 2048, 2048]⟩
abbrev S8x2048x2048 : Shape := ⟨3, ![8, 2048, 2048]⟩
abbrev S4x8x2048x2048 : Shape := ⟨4, ![4, 8, 2048, 2048]⟩
abbrev S1x8x2048x2048 : Shape := ⟨4, ![1, 8, 2048, 2048]⟩
abbrev S4x8x2048x512 : Shape := ⟨4, ![4, 8, 2048, 512]⟩
abbrev S4x2048x8 : Shape := ⟨3, ![4, 2048, 8]⟩
abbrev S4x2048x8x1 : Shape := ⟨4, ![4, 2048, 8, 1]⟩

abbrev nBuf : Space → Nat
  | .hbm => 159
  | .vmem => 0
  | .smem => 0
  | _ => 0

abbrev hbmTy0_0 (i : Nat) : BufTy := match i % 128 with
  | 0 => ⟨S8192x26624, .bf16⟩
  | 1 => ⟨S8192x2048, .bf16⟩
  | 2 => ⟨S8192x2048, .f32⟩
  | 3 => ⟨S8192x2048, .bf16⟩
  | 4 => ⟨S8192x2048, .f32⟩
  | 5 => ⟨S8192x4096, .bf16⟩
  | 6 => ⟨S8192x4096, .f32⟩
  | 7 => ⟨S8192x4096, .bf16⟩
  | 8 => ⟨S8192x4096, .f32⟩
  | 9 => ⟨S4x2048x8x256, .f32⟩
  | 10 => ⟨S128, .f32⟩
  | 11 => ⟨S128, .f32⟩
  | 12 => ⟨S_, .f32⟩
  | 13 => ⟨S128, .f32⟩
  | 14 => ⟨S128, .f32⟩
  | 15 => ⟨S_, .f32⟩
  | 16 => ⟨S128, .f32⟩
  | 17 => ⟨S128, .f32⟩
  | 18 => ⟨S2048, .f32⟩
  | 19 => ⟨S2048x1, .f32⟩
  | 20 => ⟨S1x128, .f32⟩
  | 21 => ⟨S2048x128, .f32⟩
  | 22 => ⟨S2048x128, .f32⟩
  | 23 => ⟨S2048x128, .f32⟩
  | 24 => ⟨S2048x128, .f32⟩
  | 25 => ⟨S1x2048x1x128, .f32⟩
  | 26 => ⟨S2048x128, .f32⟩
  | 27 => ⟨S1x2048x1x128, .f32⟩
  | 28 => ⟨S4x2048x8x128, .f32⟩
  | 29 => ⟨S4x2048x8x128, .f32⟩
  | 30 => ⟨S4x2048x8x128, .f32⟩
  | 31 => ⟨S4x2048x8x128, .f32⟩
  | 32 => ⟨S4x2048x8x128, .f32⟩
  | 33 => ⟨S4x2048x8x128, .f32⟩
  | 34 => ⟨S4x2048x8x128, .f32⟩
  | 35 => ⟨S4x2048x8x128, .f32⟩
  | 36 => ⟨S4x2048x8x128, .f32⟩
  | 37 => ⟨S4x2048x8x128, .f32⟩
  | 38 => ⟨S4x2048x8x128, .f32⟩
  | 39 => ⟨S4x2048x8x128, .f32⟩
  | 40 => ⟨S4x2048x8x256, .f32⟩
  | 41 => ⟨S4x2048x8x256, .f32⟩
  | 42 => ⟨S128, .f32⟩
  | 43 => ⟨S128, .f32⟩
  | 44 => ⟨S_, .f32⟩
  | 45 => ⟨S128, .f32⟩
  | 46 => ⟨S128, .f32⟩
  | 47 => ⟨S_, .f32⟩
  | 48 => ⟨S128, .f32⟩
  | 49 => ⟨S128, .f32⟩
  | 50 => ⟨S2048, .f32⟩
  | 51 => ⟨S2048x1, .f32⟩
  | 52 => ⟨S1x128, .f32⟩
  | 53 => ⟨S2048x128, .f32⟩
  | 54 => ⟨S2048x128, .f32⟩
  | 55 => ⟨S2048x128, .f32⟩
  | 56 => ⟨S2048x128, .f32⟩
  | 57 => ⟨S1x2048x1x128, .f32⟩
  | 58 => ⟨S2048x128, .f32⟩
  | 59 => ⟨S1x2048x1x128, .f32⟩
  | 60 => ⟨S4x2048x8x128, .f32⟩
  | 61 => ⟨S4x2048x8x128, .f32⟩
  | 62 => ⟨S4x2048x8x128, .f32⟩
  | 63 => ⟨S4x2048x8x128, .f32⟩
  | 64 => ⟨S4x2048x8x128, .f32⟩
  | 65 => ⟨S4x2048x8x128, .f32⟩
  | 66 => ⟨S4x2048x8x128, .f32⟩
  | 67 => ⟨S4x2048x8x128, .f32⟩
  | 68 => ⟨S4x2048x8x128, .f32⟩
  | 69 => ⟨S4x2048x8x128, .f32⟩
  | 70 => ⟨S4x2048x8x128, .f32⟩
  | 71 => ⟨S4x2048x8x128, .f32⟩
  | 72 => ⟨S4x2048x8x256, .f32⟩
  | 73 => ⟨S_, .f32⟩
  | 74 => ⟨S4x2048x8x256, .f32⟩
  | 75 => ⟨S4x2048x8x256, .f32⟩
  | 76 => ⟨S4x2048x8x512, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S8, .f32⟩
  | 88 => ⟨S2048, .f32⟩
  | 89 => ⟨S2048, .i32⟩
  | 90 => ⟨S_, .i32⟩
  | 91 => ⟨S2048, .i32⟩
  | 92 => ⟨S2048, .i32⟩
  | 93 => ⟨S2048x1, .i32⟩
  | 94 => ⟨S1x2048, .i32⟩
  | 95 => ⟨S2048x2048, .i32⟩
  | 96 => ⟨S2048x2048, .i32⟩
  | 97 => ⟨S2048x2048, .i1⟩
  | 98 => ⟨S1x2048, .i32⟩
  | 99 => ⟨S2048x1, .i32⟩
  | 100 => ⟨S2048x2048, .i32⟩
  | 101 => ⟨S2048x2048, .i32⟩
  | 102 => ⟨S2048x2048, .i1⟩
  | 103 => ⟨S2048x1, .f32⟩
  | 104 => ⟨S1x2048, .f32⟩
  | 105 => ⟨S2048x2048, .f32⟩
  | 106 => ⟨S2048x2048, .f32⟩
  | 107 => ⟨S2048x2048, .f32⟩
  | 108 => ⟨S8x1x1, .f32⟩
  | 109 => ⟨S2048x2048, .f32⟩
  | 110 => ⟨S1x2048x2048, .f32⟩
  | 111 => ⟨S8x2048x2048, .f32⟩
  | 112 => ⟨S8x2048x2048, .f32⟩
  | 113 => ⟨S8x2048x2048, .f32⟩
  | 114 => ⟨S8x2048x2048, .f32⟩
  | 115 => ⟨S8x1x1, .f32⟩
  | 116 => ⟨S1x2048x2048, .f32⟩
  | 117 => ⟨S8x2048x2048, .f32⟩
  | 118 => ⟨S8x2048x2048, .f32⟩
  | 119 => ⟨S8x2048x2048, .f32⟩
  | 120 => ⟨S8x2048x2048, .f32⟩
  | 121 => ⟨S_, .f32⟩
  | 122 => ⟨S_, .f32⟩
  | 123 => ⟨S8x2048x2048, .i1⟩
  | 124 => ⟨S8x2048x2048, .f32⟩
  | 125 => ⟨S8x2048x2048, .f32⟩
  | 126 => ⟨S8x2048x2048, .i1⟩
  | 127 => ⟨S8x2048x2048, .f32⟩
  | _ => ⟨S8192x26624, .bf16⟩

abbrev hbmTy0_1 (i : Nat) : BufTy := match i % 128 with
  | 0 => ⟨S4x8x2048x2048, .f32⟩
  | 1 => ⟨S1x8x2048x2048, .f32⟩
  | 2 => ⟨S4x8x2048x2048, .f32⟩
  | 3 => ⟨S4x8x2048x2048, .f32⟩
  | 4 => ⟨S4x8x2048x512, .f32⟩
  | 5 => ⟨S4x2048x8x512, .f32⟩
  | 6 => ⟨S4x2048x8x512, .f32⟩
  | 7 => ⟨S_, .f32⟩
  | 8 => ⟨S4x2048x8, .f32⟩
  | 9 => ⟨S4x2048x8x1, .f32⟩
  | 10 => ⟨S_, .f32⟩
  | 11 => ⟨S4x2048x8x1, .f32⟩
  | 12 => ⟨S4x2048x8x1, .f32⟩
  | 13 => ⟨S_, .f32⟩
  | 14 => ⟨S4x2048x8x1, .f32⟩
  | 15 => ⟨S4x2048x8x1, .f32⟩
  | 16 => ⟨S4x2048x8x1, .f32⟩
  | 17 => ⟨S4x2048x8x512, .f32⟩
  | 18 => ⟨S4x2048x8x512, .f32⟩
  | 19 => ⟨S8192x4096, .f32⟩
  | 20 => ⟨S8192x4096, .f32⟩
  | 21 => ⟨S_, .f32⟩
  | 22 => ⟨S8192x4096, .f32⟩
  | 23 => ⟨S8192x4096, .f32⟩
  | 24 => ⟨S_, .f32⟩
  | 25 => ⟨S8192x4096, .f32⟩
  | 26 => ⟨S8192x4096, .f32⟩
  | 27 => ⟨S8192x4096, .f32⟩
  | 28 => ⟨S8192x4096, .f32⟩
  | 29 => ⟨S8192x4096, .f32⟩
  | 30 => ⟨S8192x4096, .bf16⟩
  | _ => ⟨S8192x26624, .bf16⟩

abbrev hbmTy (i : Nat) : BufTy := match i / 128 with
  | 0 => hbmTy0_0 i
  | 1 => hbmTy0_1 i
  | _ => ⟨S8192x26624, .bf16⟩

abbrev bufTy : (tb : Table) → Fin (tcTables nBuf tb) → BufTy
  | .hbm, ⟨i, _⟩ => hbmTy i
  | _, _ => ⟨S8192x26624, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_cst_1 : Ref sig .tc := ⟨.hbm, 44, rfl⟩
abbrev main_v41 : Ref sig .tc := ⟨.hbm, 45, rfl⟩
abbrev main_v42 : Ref sig .tc := ⟨.hbm, 46, rfl⟩
abbrev main_cst_2 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_cst_3 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_cst_4 : Ref sig .tc := ⟨.hbm, 78, rfl⟩
abbrev main_v72 : Ref sig .tc := ⟨.hbm, 79, rfl⟩
abbrev main_v73 : Ref sig .tc := ⟨.hbm, 80, rfl⟩
abbrev main_cst_5 : Ref sig .tc := ⟨.hbm, 81, rfl⟩
abbrev main_v74 : Ref sig .tc := ⟨.hbm, 82, rfl⟩
abbrev main_v75 : Ref sig .tc := ⟨.hbm, 83, rfl⟩
abbrev main_cst_6 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_c : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_cst_7 : Ref sig .tc := ⟨.hbm, 121, rfl⟩
abbrev main_call0_v0 : Ref sig .tc := ⟨.hbm, 122, rfl⟩
abbrev main_call0_v1 : Ref sig .tc := ⟨.hbm, 123, rfl⟩
abbrev main_call0_v2 : Ref sig .tc := ⟨.hbm, 124, rfl⟩
abbrev main_v111 : Ref sig .tc := ⟨.hbm, 125, rfl⟩
abbrev main_call1_v0 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_cst_8 : Ref sig .tc := ⟨.hbm, 135, rfl⟩
abbrev main_v120 : Ref sig .tc := ⟨.hbm, 136, rfl⟩
abbrev main_v121 : Ref sig .tc := ⟨.hbm, 137, rfl⟩
abbrev main_cst_9 : Ref sig .tc := ⟨.hbm, 138, rfl⟩
abbrev main_v122 : Ref sig .tc := ⟨.hbm, 139, rfl⟩
abbrev main_v123 : Ref sig .tc := ⟨.hbm, 140, rfl⟩
abbrev main_cst_10 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_call2_v0 : Ref sig .tc := ⟨.hbm, 147, rfl⟩
abbrev main_call2_v1 : Ref sig .tc := ⟨.hbm, 148, rfl⟩
abbrev main_call2_cst : Ref sig .tc := ⟨.hbm, 149, rfl⟩
abbrev main_call2_v2 : Ref sig .tc := ⟨.hbm, 150, rfl⟩
abbrev main_call2_v3 : Ref sig .tc := ⟨.hbm, 151, rfl⟩
abbrev main_call2_cst_0 : Ref sig .tc := ⟨.hbm, 152, rfl⟩
abbrev main_call2_v4 : Ref sig .tc := ⟨.hbm, 153, rfl⟩
abbrev main_call2_v5 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩

abbrev nD : Nat := 1
abbrev τ : Topo := Topo.v7x

variable {F : FTy → Type} [FloatOps F]
-- ==== Proof.Run.lean ====
module

public import proofs.«01_k».proof.Proof.Gen.KernelIdeal.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every run ends with the result array at what the second pipeline leaves in it, the arguments as launched. -/
theorem run : θ_run defs (onTc (τ := τ) (main (F := F))) ⟨m, fun _ => 0, ρ⟩ (fun r => ∀ c : Dev nD,
      r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Attn

end
-- ==== Proof.Head.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

section Any
variable {F : FTy → Type} [FloatOps F]

/-- The query rows of one head, rms-normalised and scaled by the gains. -/
def normQ (x : FVec F S256x128 .bf16) (g : FVec F S1x128 .f32) : FVec F S256x128 .bf16 :=
  have e : FVec F S256x128 .f32 := extf .f32 x bitsLt_bf16_f32
  truncf .bf16 (mulf (mulf e (broadcastTo S256x128 (rsqrt (addf (divf (shapeCast S256x1 (multiReduction .add [1] S256 (mulf e e) 0x00000000#32 reduces_S256x128_S256 (.inl rfl) rfl) shapeCasts_S256_S256x1)
    (broadcast S256x1 (Scalar.ofBits .f32 0x43000000#32 : F .f32))) (broadcast S256x1 (Scalar.ofBits .f32 0x358637BD#32 : F .f32)))) broadcasts_S256x1_S256x128))
    (broadcastTo S256x128 (shapeCast S1x128 g shapeCasts_S1x128_S1x128) broadcasts_S1x128_S256x128)) bitsLt_bf16_f32

/-- The key rows of one head, rms-normalised and scaled by the gains. -/
def normK (x : FVec F S768x128 .bf16) (g : FVec F S1x128 .f32) : FVec F S768x128 .bf16 :=
  have e : FVec F S768x128 .f32 := extf .f32 x bitsLt_bf16_f32
  truncf .bf16 (mulf (mulf e (broadcastTo S768x128 (rsqrt (addf (divf (shapeCast S768x1 (multiReduction .add [1] S768 (mulf e e) 0x00000000#32 reduces_S768x128_S768 (.inl rfl) rfl) shapeCasts_S768_S768x1)
    (broadcast S768x1 (Scalar.ofBits .f32 0x43000000#32 : F .f32))) (broadcast S768x1 (Scalar.ofBits .f32 0x358637BD#32 : F .f32)))) broadcasts_S768x1_S768x128))
    (broadcastTo S768x128 (shapeCast S1x128 g shapeCasts_S1x128_S1x128) broadcasts_S1x128_S768x128)) bitsLt_bf16_f32

/-- The masked scores of one head: query block `a` against its window of three key blocks. -/
def scores (a : BitVec 32) (qn : FVec F S256x128 .bf16) (kn : FVec F S768x128 .bf16) (tb : FVec F S1x256x768 .f32) : FVec F S256x768 .f32 :=
  select (cmpi .sge (iota .tc S256x768 32 [1] iota_S256x768_d1_w32) (broadcast S256x768 (Scalar.muli (Scalar.subi 2#32 a) 256#32)))
    (addf (mulf (matmul dot_S256x128_S768x128_S256x768_1_1_0_0_n_n none qn kn (constant S256x768 .f32 0x00000000#32))
      (broadcast S256x768 (Scalar.ofBits .f32 0x3DB504F3#32 : F .f32))) (shapeCast S256x768 tb shapeCasts_S1x256x768_S256x768))
    (broadcast S256x768 (Scalar.ofBits .f32 0xFF800000#32 : F .f32))

/-- The exponentials of the scores, each row's greatest score taken off first. -/
def expo (s : FVec F S256x768 .f32) : FVec F S256x768 .f32 :=
  exp (subf s (broadcastTo S256x768 (shapeCast S256x1 (multiReduction .maximumf [1] S256 s 0xFF800000#32 reduces_S256x768_S256 (.inl rfl) rfl) shapeCasts_S256_S256x1) broadcasts_S256x1_S256x768))

/-- The weighted sum of the value rows, divided by the sum of the weights. -/
def mix (p : FVec F S256x768 .f32) (v : FVec F S768x128 .bf16) : FVec F S256x128 .f32 :=
  divf (matmul dot_S256x768_S768x128_S256x128_1_0_0_1_n_n none (truncf .bf16 p bitsLt_bf16_f32) v (constant S256x128 .f32 0x00000000#32))
    (broadcastTo S256x128 (shapeCast S256x1 (multiReduction .add [1] S256 p 0x00000000#32 reduces_S256x768_S256 (.inl rfl) rfl) shapeCasts_S256_S256x1) broadcasts_S256x1_S256x128)

/-- One head's output block. -/
def headOut (a : BitVec 32) (kc vc : FVec F S768x128 .bf16) (q : FVec F S256x128 .bf16) (gq gk : FVec F S1x128 .f32) (tb : FVec F S1x256x768 .f32) : FVec F S256x128 .f32 :=
  mix (expo (scores a (normQ q gq) (normK kc gk) tb)) vc

/-- The three blocks of a head group's keys (or values), one below the other. -/
def stack3 (x1 x2 x3 : FVec F S256x1024 .bf16) : FVec F S768x1024 .bf16 :=
  concatenate S768x1024 0 [⟨S256x1024, x1⟩, ⟨S256x1024, x2⟩, ⟨S256x1024, x3⟩] concatenates_S256x1024_S256x1024_S256x1024_S768x1024_d0

/-- Head 0 of the group at a grid point. -/
def head0 (i : grid1.Coords) (x0 x1 x2 x3 x4 x5 x6 : Vec F S256x1024 .bf16) (x7 : Vec F S8x256x768 .f32) (x8 x9 : Vec F S1x128 .f32) : FVec F S256x128 .f32 :=
  headOut (BitVec.ofNat 32 (i 1).val) (extractStridedSlice S768x128 ![0, 0] (stack3 (View.ld x1 r1_0) (View.ld x2 r1_0) (View.ld x3 r1_0)) slices_S768x1024_o0_0_S768x128) (extractStridedSlice S768x128 ![0, 0] (stack3 (View.ld x4 r1_0) (View.ld x5 r1_0) (View.ld x6 r1_0)) slices_S768x1024_o0_0_S768x128) (View.ld x0 r1_1) (View.ld x8 r1_2) (View.ld x9 r1_2) (View.ld x7 r1_3)

/-- Head 1 of the group at a grid point. -/
def head1 (i : grid1.Coords) (x0 x1 x2 x3 x4 x5 x6 : Vec F S256x1024 .bf16) (x7 : Vec F S8x256x768 .f32) (x8 x9 : Vec F S1x128 .f32) : FVec F S256x128 .f32 :=
  headOut (BitVec.ofNat 32 (i 1).val) (extractStridedSlice S768x128 ![0, 128] (stack3 (View.ld x1 r1_0) (View.ld x2 r1_0) (View.ld x3 r1_0)) slices_S768x1024_o0_128_S768x128) (extractStridedSlice S768x128 ![0, 128] (stack3 (View.ld x4 r1_0) (View.ld x5 r1_0) (View.ld x6 r1_0)) slices_S768x1024_o0_128_S768x128) (View.ld x0 r1_4) (View.ld x8 r1_2) (View.ld x9 r1_2) (View.ld x7 r1_5)

/-- Head 2 of the group at a grid point. -/
def head2 (i : grid1.Coords) (x0 x1 x2 x3 x4 x5 x6 : Vec F S256x1024 .bf16) (x7 : Vec F S8x256x768 .f32) (x8 x9 : Vec F S1x128 .f32) : FVec F S256x128 .f32 :=
  headOut (BitVec.ofNat 32 (i 1).val) (extractStridedSlice S768x128 ![0, 256] (stack3 (View.ld x1 r1_0) (View.ld x2 r1_0) (View.ld x3 r1_0)) slices_S768x1024_o0_256_S768x128) (extractStridedSlice S768x128 ![0, 256] (stack3 (View.ld x4 r1_0) (View.ld x5 r1_0) (View.ld x6 r1_0)) slices_S768x1024_o0_256_S768x128) (View.ld x0 r1_6) (View.ld x8 r1_2) (View.ld x9 r1_2) (View.ld x7 r1_7)

/-- Head 3 of the group at a grid point. -/
def head3 (i : grid1.Coords) (x0 x1 x2 x3 x4 x5 x6 : Vec F S256x1024 .bf16) (x7 : Vec F S8x256x768 .f32) (x8 x9 : Vec F S1x128 .f32) : FVec F S256x128 .f32 :=
  headOut (BitVec.ofNat 32 (i 1).val) (extractStridedSlice S768x128 ![0, 384] (stack3 (View.ld x1 r1_0) (View.ld x2 r1_0) (View.ld x3 r1_0)) slices_S768x1024_o0_384_S768x128) (extractStridedSlice S768x128 ![0, 384] (stack3 (View.ld x4 r1_0) (View.ld x5 r1_0) (View.ld x6 r1_0)) slices_S768x1024_o0_384_S768x128) (View.ld x0 r1_8) (View.ld x8 r1_2) (View.ld x9 r1_2) (View.ld x7 r1_9)

/-- Head 4 of the group at a grid point. -/
def head4 (i : grid1.Coords) (x0 x1 x2 x3 x4 x5 x6 : Vec F S256x1024 .bf16) (x7 : Vec F S8x256x768 .f32) (x8 x9 : Vec F S1x128 .f32) : FVec F S256x128 .f32 :=
  headOut (BitVec.ofNat 32 (i 1).val) (extractStridedSlice S768x128 ![0, 512] (stack3 (View.ld x1 r1_0) (View.ld x2 r1_0) (View.ld x3 r1_0)) slices_S768x1024_o0_512_S768x128) (extractStridedSlice S768x128 ![0, 512] (stack3 (View.ld x4 r1_0) (View.ld x5 r1_0) (View.ld x6 r1_0)) slices_S768x1024_o0_512_S768x128) (View.ld x0 r1_10) (View.ld x8 r1_2) (View.ld x9 r1_2) (View.ld x7 r1_11)

/-- Head 5 of the group at a grid point. -/
def head5 (i : grid1.Coords) (x0 x1 x2 x3 x4 x5 x6 : Vec F S256x1024 .bf16) (x7 : Vec F S8x256x768 .f32) (x8 x9 : Vec F S1x128 .f32) : FVec F S256x128 .f32 :=
  headOut (BitVec.ofNat 32 (i 1).val) (extractStridedSlice S768x128 ![0, 640] (stack3 (View.ld x1 r1_0) (View.ld x2 r1_0) (View.ld x3 r1_0)) slices_S768x1024_o0_640_S768x128) (extractStridedSlice S768x128 ![0, 640] (stack3 (View.ld x4 r1_0) (View.ld x5 r1_0) (View.ld x6 r1_0)) slices_S768x1024_o0_640_S768x128) (View.ld x0 r1_12) (View.ld x8 r1_2) (View.ld x9 r1_2) (View.ld x7 r1_13)

/-- Head 6 of the group at a grid point. -/
def head6 (i : grid1.Coords) (x0 x1 x2 x3 x4 x5 x6 : Vec F S256x1024 .bf16) (x7 : Vec F S8x256x768 .f32) (x8 x9 : Vec F S1x128 .f32) : FVec F S256x128 .f32 :=
  headOut (BitVec.ofNat 32 (i 1).val) (extractStridedSlice S768x128 ![0, 768] (stack3 (View.ld x1 r1_0) (View.ld x2 r1_0) (View.ld x3 r1_0)) slices_S768x1024_o0_768_S768x128) (extractStridedSlice S768x128 ![0, 768] (stack3 (View.ld x4 r1_0) (View.ld x5 r1_0) (View.ld x6 r1_0)) slices_S768x1024_o0_768_S768x128) (View.ld x0 r1_14) (View.ld x8 r1_2) (View.ld x9 r1_2) (View.ld x7 r1_15)

/-- Head 7 of the group at a grid point. -/
def head7 (i : grid1.Coords) (x0 x1 x2 x3 x4 x5 x6 : Vec F S256x1024 .bf16) (x7 : Vec F S8x256x768 .f32) (x8 x9 : Vec F S1x128 .f32) : FVec F S256x128 .f32 :=
  headOut (BitVec.ofNat 32 (i 1).val) (extractStridedSlice S768x128 ![0, 896] (stack3 (View.ld x1 r1_0) (View.ld x2 r1_0) (View.ld x3 r1_0)) slices_S768x1024_o0_896_S768x128) (extractStridedSlice S768x128 ![0, 896] (stack3 (View.ld x4 r1_0) (View.ld x5 r1_0) (View.ld x6 r1_0)) slices_S768x1024_o0_896_S768x128) (View.ld x0 r1_16) (View.ld x8 r1_2) (View.ld x9 r1_2) (View.ld x7 r1_17)

/-- What the body leaves in the output's buffer: the eight heads side by side. -/
theorem out_eq (i : grid1.Coords) (x0 x1 x2 x3 x4 x5 x6 : Vec F S256x1024 .bf16) (x7 : Vec F S8x256x768 .f32) (x8 x9 : Vec F S1x128 .f32) :
    out1_10 i x0 x1 x2 x3 x4 x5 x6 x7 x8 x9 = View.canon [⟨r1_0, truncf .bf16 (concatenate S256x1024 1 [⟨S256x128, head0 i x0 x1 x2 x3 x4 x5 x6 x7 x8 x9⟩, ⟨S256x128, head1 i x0 x1 x2 x3 x4 x5 x6 x7 x8 x9⟩, ⟨S256x128, head2 i x0 x1 x2 x3 x4 x5 x6 x7 x8 x9⟩, ⟨S256x128, head3 i x0 x1 x2 x3 x4 x5 x6 x7 x8 x9⟩, ⟨S256x128, head4 i x0 x1 x2 x3 x4 x5 x6 x7 x8 x9⟩, ⟨S256x128, head5 i x0 x1 x2 x3 x4 x5 x6 x7 x8 x9⟩, ⟨S256x128, head6 i x0 x1 x2 x3 x4 x5 x6 x7 x8 x9⟩, ⟨S256x128, head7 i x0 x1 x2 x3 x4 x5 x6 x7 x8 x9⟩] concatenates_S256x128_S256x128_S256x128_S256x128_S256x128_S256x128_S256x128_S256x128_S256x1024_d1) bitsLt_bf16_f32⟩] := rfl

end Any

end Cert.KernelIdeal.Attn

end
-- ==== Proof.Math.lean ====
module

public import Idealize.ShloMosaic.Lib.Pointwise

@[expose] public section

noncomputable section

open Idealize.ShloMosaic

namespace Cert.Attn

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.zero : IsReal 0 := ⟨0, rfl⟩

theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

theorem IsReal.of_ne {x : EReal} (hb : x ≠ ⊥) (ht : x ≠ ⊤) : IsReal x :=
  ⟨x.toReal, (EReal.coe_toReal ht hb).symm⟩

theorem IsReal.sum {ι : Type*} (s : Finset ι) (f : ι → EReal) (h : ∀ i ∈ s, IsReal (f i)) : IsReal (∑ i ∈ s, f i) := by
  classical
  induction s using Finset.induction_on with
  | empty => exact IsReal.zero
  | insert a s ha ih =>
    rw [Finset.sum_insert ha]
    exact (h a (Finset.mem_insert_self a s)).add (ih fun i hi => h i (Finset.mem_insert_of_mem hi))

/-! ## The constants -/

theorem c128 : Ideal.ofBits .f32 0x43000000#32 = ((128 : ℝ) : EReal) := by
  simp [Ideal.ofBits, Ideal.ieee]
  rw [← EReal.coe_mul]; norm_num

theorem cbot : Ideal.ofBits .f32 0xFF800000#32 = ⊥ := by
  simp [Ideal.ofBits, Ideal.ieee]

theorem ceps : ∃ r : ℝ, 0 < r ∧ Ideal.ofBits .f32 0x358637BD#32 = (r : EReal) := by
  simp only [Ideal.ofBits, Ideal.ieee]
  refine ⟨_, ?_, rfl⟩
  simp

theorem cscale : IsReal (Ideal.ofBits .f32 0x3DB504F3#32) := by
  simp only [Ideal.ofBits, Ideal.ieee]
  exact ⟨_, rfl⟩

/-! ## The normalised rows -/

/-- One row, rms-normalised and scaled by the gains. -/
def rn (x g : Fin 128 → EReal) (d : Fin 128) : EReal :=
  x d * Ideal.rsqrt (Ideal.div (∑ k, x k * x k) (Ideal.ofBits .f32 0x43000000#32) + Ideal.ofBits .f32 0x358637BD#32) * g d

theorem mul_self_nonneg' (x : EReal) : 0 ≤ x * x := by
  induction x with
  | bot => simp
  | top => simp
  | coe r => rw [← EReal.coe_mul]; exact_mod_cast mul_self_nonneg r

/-- The normalised row is real whatever the row holds: the square of an infinite entry sends the factor to zero. -/
theorem rn_real (x g : Fin 128 → EReal) (hg : ∀ d, IsReal (g d)) (d : Fin 128) : IsReal (rn x g d) := by
  obtain ⟨e, he, hee⟩ := ceps
  unfold rn
  rw [c128, hee]
  refine IsReal.mul ?_ (hg d)
  by_cases h : ∀ k, IsReal (x k)
  · refine (h d).mul ?_
    have hs : IsReal (∑ k, x k * x k) := IsReal.sum _ _ fun k _ => (h k).mul (h k)
    have hn : 0 ≤ ∑ k, x k * x k := Finset.sum_nonneg fun k _ => mul_self_nonneg' (x k)
    obtain ⟨s, hs⟩ := hs
    rw [hs] at hn ⊢
    have hn' : 0 ≤ s := by exact_mod_cast hn
    have h128 : ((128 : ℝ) : EReal) ≠ 0 := by norm_num
    rw [Ideal.div, if_neg h128, ← EReal.coe_inv, ← EReal.coe_mul, ← EReal.coe_add]
    have hp : 0 < s * (128 : ℝ)⁻¹ + e := by positivity
    show IsReal (if _ then _ else if _ then _ else _)
    rw [if_neg (not_lt.mpr hp.le), if_neg hp.ne']
    exact ⟨_, rfl⟩
  · push Not at h
    obtain ⟨k, hk⟩ := h
    have hxk : x k * x k = ⊤ := by
      rcases eq_or_ne (x k) ⊥ with hb | hb
      · rw [hb]; rfl
      · rcases eq_or_ne (x k) ⊤ with ht | ht
        · rw [ht]; rfl
        · exact absurd (IsReal.of_ne hb ht) hk
    have hs : ∑ k, x k * x k = ⊤ := by
      refine top_le_iff.mp (hxk ▸ Finset.single_le_sum (f := fun k => x k * x k) (fun i _ => mul_self_nonneg' (x i)) (Finset.mem_univ k))
    have h128 : ((128 : ℝ) : EReal) ≠ 0 := by norm_num
    rw [hs, Ideal.div, if_neg h128, ← EReal.coe_inv, EReal.top_mul_coe_of_pos (by norm_num), EReal.top_add_coe]
    show IsReal (x d * 0)
    rw [mul_zero]; exact IsReal.zero

/-! ## Softmax-weighted sums -/

/-- One score: the scaled inner product and a bias. -/
def sc (q k : Fin 128 → EReal) (b : EReal) : EReal := (∑ d, q d * k d) * Ideal.ofBits .f32 0x3DB504F3#32 + b

theorem sc_real (q k : Fin 128 → EReal) (b : EReal) (hq : ∀ d, IsReal (q d)) (hk : ∀ d, IsReal (k d)) (hb : IsReal b) : IsReal (sc q k b) :=
  ((IsReal.sum _ _ fun d _ => (hq d).mul (hk d)).mul cscale).add hb

theorem sc_bot (q k : Fin 128 → EReal) : sc q k ⊥ = ⊥ := EReal.add_bot _

/-- The greatest score. -/
def mx {N : ℕ} (s : Fin N → EReal) : EReal := Finset.fold max (Ideal.ofBits .f32 0xFF800000#32) s Finset.univ

/-- The weighted sum divided by the sum of the weights. -/
def mixed {N : ℕ} (s v : Fin N → EReal) : EReal :=
  Ideal.div (∑ j, Ideal.exp (s j - mx s) * v j) (∑ j, Ideal.exp (s j - mx s))

/-- The sum weighted by the quotients. -/
def weighted {N : ℕ} (s v : Fin N → EReal) : EReal :=
  ∑ j, Ideal.div (Ideal.exp (s j - max (Ideal.ofBits .f32 0xFF800000#32) (mx s))) (∑ j, Ideal.exp (s j - max (Ideal.ofBits .f32 0xFF800000#32) (mx s))) * v j

theorem le_mx {N : ℕ} (s : Fin N → EReal) (j : Fin N) : s j ≤ mx s :=
  Finset.le_fold_max (s j) |>.mpr (Or.inr ⟨j, Finset.mem_univ j, le_rfl⟩)

theorem mx_le {N : ℕ} (s : Fin N → EReal) (b : EReal) (h : ∀ j, s j ≤ b) : mx s ≤ b :=
  Finset.fold_max_le b |>.mpr ⟨by rw [cbot]; exact bot_le, fun j _ => h j⟩

theorem mx_lt_top {N : ℕ} (s : Fin N → EReal) (h : ∀ j, s j ≠ ⊤) : mx s ≠ ⊤ :=
  ne_of_lt (Finset.fold_max_lt ⊤ |>.mpr ⟨by rw [cbot]; exact bot_lt_top, fun j _ => lt_top_iff_ne_top.mpr (h j)⟩)

/-- Multiplying by a real that is not negative goes through a sum of extended reals. -/
theorem sum_mul_real {ι : Type*} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- A wide window whose scores outside a band are masked gives what the band alone gives. -/
theorem mixed_eq_weighted {N N' : ℕ} (e : Fin N' → Fin N) (he : Function.Injective e) (sK vK : Fin N → EReal) (sR vR : Fin N' → EReal)
    (h1 : ∀ j, sR j = sK (e j)) (h2 : ∀ j, sR j ≠ ⊥ → vR j = vK (e j)) (h3 : ∀ k, (∀ j, e j ≠ k) → sK k = ⊥)
    (ht : ∀ j, sR j ≠ ⊤) (hj : ∃ j, sR j ≠ ⊥) : mixed sK vK = weighted sR vR := by
  have hM : mx sK = mx sR := by
    refine le_antisymm (mx_le _ _ fun k => ?_) (mx_le _ _ fun j => (h1 j).trans_le (le_mx sK (e j)))
    by_cases hk : ∃ j, e j = k
    · obtain ⟨j, rfl⟩ := hk; exact (h1 j).symm.trans_le (le_mx sR j)
    · rw [h3 k (by push Not at hk; exact hk)]; exact bot_le
  obtain ⟨M, hMr⟩ : IsReal (mx sR) := by
    obtain ⟨j, hj⟩ := hj
    exact IsReal.of_ne (fun h => hj (le_bot_iff.mp (h ▸ le_mx sR j))) (mx_lt_top sR ht)
  unfold mixed weighted
  rw [hM, cbot, max_eq_right bot_le, hMr]
  have hbot : Ideal.exp ((⊥ : EReal) - (M : EReal)) = 0 := by
    rw [EReal.bot_sub]; rfl
  have hw : ∀ j, ∃ r : ℝ, 0 ≤ r ∧ (sR j ≠ ⊥ → 0 < r) ∧ Ideal.exp (sR j - (M : EReal)) = (r : EReal) := by
    intro j
    by_cases hb : sR j = ⊥
    · exact ⟨0, le_rfl, fun h => absurd hb h, by rw [hb, hbot]; rfl⟩
    · obtain ⟨r, hr⟩ := IsReal.of_ne hb (ht j)
      exact ⟨Real.exp (r - M), (Real.exp_pos _).le, fun _ => Real.exp_pos _, by rw [hr, ← EReal.coe_sub]; rfl⟩
  choose w hw0 hwp hwe using hw
  have hreindex : ∀ f : Fin N → EReal, (∀ k, (∀ j, e j ≠ k) → f k = 0) → ∑ k, f k = ∑ j, f (e j) := by
    intro f hf
    refine (Finset.sum_of_injOn e he.injOn (fun _ _ => Finset.mem_coe.mpr (Finset.mem_univ _)) (fun k _ hk => hf k fun j hjk => hk ⟨j, Finset.mem_coe.mpr (Finset.mem_univ j), hjk⟩) fun _ _ => rfl).symm
  rw [hreindex (fun k => Ideal.exp (sK k - (M : EReal)) * vK k) (fun k hk => by rw [h3 k hk, hbot, zero_mul]),
    hreindex (fun k => Ideal.exp (sK k - (M : EReal))) (fun k hk => by rw [h3 k hk, hbot])]
  have hterm : ∀ j, Ideal.exp (sK (e j) - (M : EReal)) * vK (e j) = (w j : EReal) * vR j := by
    intro j
    rw [← h1 j]
    by_cases hb : sR j = ⊥
    · rw [← hwe j, hb, hbot, zero_mul, zero_mul]
    · rw [h2 j hb, hwe j]
  have hterm' : ∀ j, Ideal.exp (sK (e j) - (M : EReal)) = (w j : EReal) := fun j => by rw [← h1 j, hwe j]
  simp only [hterm]
  simp only [hterm', hwe]
  have hW : ∑ j, (w j : EReal) = ((∑ j, w j : ℝ) : EReal) := by
    induction (Finset.univ : Finset (Fin N')) using Finset.induction_on with
    | empty => simp
    | insert a s ha ih => rw [Finset.sum_insert ha, Finset.sum_insert ha, EReal.coe_add, ih]
  have hWp : 0 < ∑ j, w j := by
    obtain ⟨j, hj⟩ := hj
    exact Finset.sum_pos' (fun i _ => hw0 i) ⟨j, Finset.mem_univ j, hwp j hj⟩
  rw [hW]
  have hW0 : ((∑ j, w j : ℝ) : EReal) ≠ 0 := by exact_mod_cast hWp.ne'
  simp only [Ideal.div, if_neg hW0]
  rw [← EReal.coe_inv, sum_mul_real _ _ _ (inv_nonneg.mpr hWp.le)]
  refine Finset.sum_congr rfl fun j _ => ?_
  rw [mul_assoc, mul_comm (vR j), ← mul_assoc]

end Cert.Attn

end
-- ==== Proof.HeadAt.lean ====
module

public import proofs.«01_k».proof.Proof.Head
public import proofs.«01_k».proof.Proof.Math

@[expose] public section

set_option maxRecDepth 16384

noncomputable section

open Idealize.ShloMosaic Idealize.ShloMosaic.TcCoe Idealize.SL.Sem
open Cert.Attn

namespace Cert.KernelIdeal.Attn

open Cert.KernelIdeal Cert.KernelIdeal.Gen

theorem normQ_at (x : FVec Ideal S256x128 .bf16) (g : FVec Ideal S1x128 .f32) (r : Fin 256) (d : Fin 128) :
    normQ x g (ix2 r d) = rn (fun k => x (ix2 r k)) (fun k => g (ix2 0 k)) d := by
  pointwise [normQ]
  rfl

theorem normK_at (x : FVec Ideal S768x128 .bf16) (g : FVec Ideal S1x128 .f32) (r : Fin 768) (d : Fin 128) :
    normK x g (ix2 r d) = rn (fun k => x (ix2 r k)) (fun k => g (ix2 0 k)) d := by
  pointwise [normK]
  rfl

/-- A key of the window that lies before the sequence's first row is masked. -/
def msk (a : BitVec 32) (k : Fin 768) (x : EReal) : EReal :=
  Scalar.select (IntOp.cmpi .sge (BitVec.ofNat 32 k.val) (Scalar.muli (Scalar.subi 2#32 a) 256#32)) x (Ideal.ofBits .f32 0xFF800000#32)

theorem scores_at (a : BitVec 32) (qn : FVec Ideal S256x128 .bf16) (kn : FVec Ideal S768x128 .bf16) (tb : FVec Ideal S1x256x768 .f32) (r : Fin 256) (k : Fin 768) :
    scores a qn kn tb (ix2 r k) = msk a k (sc (fun d => qn (ix2 r d)) (fun d => kn (ix2 k d)) (tb (ix3 0 r k))) := by
  pointwise [scores]
  rfl

theorem expo_at (s : FVec Ideal S256x768 .f32) (r : Fin 256) (k : Fin 768) : expo s (ix2 r k) = Ideal.exp (s (ix2 r k) - mx (fun j => s (ix2 r j))) := by
  pointwise [expo]
  rfl

theorem mix_at (p : FVec Ideal S256x768 .f32) (v : FVec Ideal S768x128 .bf16) (r : Fin 256) (d : Fin 128) :
    mix p v (ix2 r d) = Ideal.div (∑ k, p (ix2 r k) * v (ix2 k d)) (∑ k, p (ix2 r k)) := by
  pointwise [mix]

theorem headOut_at (a : BitVec 32) (kc vc : FVec Ideal S768x128 .bf16) (q : FVec Ideal S256x128 .bf16) (gq gk : FVec Ideal S1x128 .f32) (tb : FVec Ideal S1x256x768 .f32) (r : Fin 256) (d : Fin 128) :
    headOut a kc vc q gq gk tb (ix2 r d)
      = mixed (fun k => msk a k (sc (rn (fun x => q (ix2 r x)) (fun x => gq (ix2 0 x))) (rn (fun x => kc (ix2 k x)) (fun x => gk (ix2 0 x))) (tb (ix3 0 r k)))) (fun k => vc (ix2 k d)) := by
  unfold headOut
  rw [mix_at]
  simp only [expo_at, scores_at, normQ_at, normK_at]
  rfl

/-- Lane `d` of head `h` in a group of eight. -/
def lane8 (h : Fin 8) (d : Fin 128) : Fin 1024 := ⟨128 * h.val + d.val, by omega⟩

/-- One head's output at an element, from the blocks. -/
def headVal (i : grid1.Coords) (x0 x1 x2 x3 x4 x5 x6 : Vec Ideal S256x1024 .bf16) (x7 : Vec Ideal S8x256x768 .f32) (x8 x9 : Vec Ideal S1x128 .f32) (h : Fin 8) (r : Fin 256) (d : Fin 128) : EReal :=
  mixed (fun k => msk (BitVec.ofNat 32 (i 1).val) k (sc (rn (fun x => x0 (ix2 r (lane8 h x))) (fun x => x8 (ix2 0 x)))
    (rn (fun x => stack3 (F := Ideal) x1 x2 x3 (ix2 k (lane8 h x))) (fun x => x9 (ix2 0 x))) (x7 (ix3 h r k)))) (fun k => stack3 (F := Ideal) x4 x5 x6 (ix2 k (lane8 h d)))

theorem ld_whole (x : Vec Ideal S256x1024 .bf16) : View.ld x r1_0 = x := by
  funext j
  idx_vars j
  pointwise

theorem head0_at (i : grid1.Coords) (x0 x1 x2 x3 x4 x5 x6 : Vec Ideal S256x1024 .bf16) (x7 : Vec Ideal S8x256x768 .f32) (x8 x9 : Vec Ideal S1x128 .f32) (r : Fin 256) (d : Fin 128) :
    head0 i x0 x1 x2 x3 x4 x5 x6 x7 x8 x9 (ix2 r d) = headVal i x0 x1 x2 x3 x4 x5 x6 x7 x8 x9 0 r d := by
  unfold head0
  rw [headOut_at, ld_whole, ld_whole, ld_whole, ld_whole, ld_whole, ld_whole]
  unfold headVal lane8
  pointwise

theorem head1_at (i : grid1.Coords) (x0 x1 x2 x3 x4 x5 x6 : Vec Ideal S256x1024 .bf16) (x7 : Vec Ideal S8x256x768 .f32) (x8 x9 : Vec Ideal S1x128 .f32) (r : Fin 256) (d : Fin 128) :
    head1 i x0 x1 x2 x3 x4 x5 x6 x7 x8 x9 (ix2 r d) = headVal i x0 x1 x2 x3 x4 x5 x6 x7 x8 x9 1 r d := by
  unfold head1
  rw [headOut_at, ld_whole, ld_whole, ld_whole, ld_whole, ld_whole, ld_whole]
  unfold headVal lane8
  pointwise

theorem head2_at (i : grid1.Coords) (x0 x1 x2 x3 x4 x5 x6 : Vec Ideal S256x1024 .bf16) (x7 : Vec Ideal S8x256x768 .f32) (x8 x9 : Vec Ideal S1x128 .f32) (r : Fin 256) (d : Fin 128) :
    head2 i x0 x1 x2 x3 x4 x5 x6 x7 x8 x9 (ix2 r d) = headVal i x0 x1 x2 x3 x4 x5 x6 x7 x8 x9 2 r d := by
  unfold head2
  rw [headOut_at, ld_whole, ld_whole, ld_whole, ld_whole, ld_whole, ld_whole]
  unfold headVal lane8
  pointwise

theorem head3_at (i : grid1.Coords) (x0 x1 x2 x3 x4 x5 x6 : Vec Ideal S256x1024 .bf16) (x7 : Vec Ideal S8x256x768 .f32) (x8 x9 : Vec Ideal S1x128 .f32) (r : Fin 256) (d : Fin 128) :
    head3 i x0 x1 x2 x3 x4 x5 x6 x7 x8 x9 (ix2 r d) = headVal i x0 x1 x2 x3 x4 x5 x6 x7 x8 x9 3 r d := by
  unfold head3
  rw [headOut_at, ld_whole, ld_whole, ld_whole, ld_whole, ld_whole, ld_whole]
  unfold headVal lane8
  pointwise

theorem head4_at (i : grid1.Coords) (x0 x1 x2 x3 x4 x5 x6 : Vec Ideal S256x1024 .bf16) (x7 : Vec Ideal S8x256x768 .f32) (x8 x9 : Vec Ideal S1x128 .f32) (r : Fin 256) (d : Fin 128) :
    head4 i x0 x1 x2 x3 x4 x5 x6 x7 x8 x9 (ix2 r d) = headVal i x0 x1 x2 x3 x4 x5 x6 x7 x8 x9 4 r d := by
  unfold head4
  rw [headOut_at, ld_whole, ld_whole, ld_whole, ld_whole, ld_whole, ld_whole]
  unfold headVal lane8
  pointwise

theorem head5_at (i : grid1.Coords) (x0 x1 x2 x3 x4 x5 x6 : Vec Ideal S256x1024 .bf16) (x7 : Vec Ideal S8x256x768 .f32) (x8 x9 : Vec Ideal S1x128 .f32) (r : Fin 256) (d : Fin 128) :
    head5 i x0 x1 x2 x3 x4 x5 x6 x7 x8 x9 (ix2 r d) = headVal i x0 x1 x2 x3 x4 x5 x6 x7 x8 x9 5 r d := by
  unfold head5
  rw [headOut_at, ld_whole, ld_whole, ld_whole, ld_whole, ld_whole, ld_whole]
  unfold headVal lane8
  pointwise

theorem head6_at (i : grid1.Coords) (x0 x1 x2 x3 x4 x5 x6 : Vec Ideal S256x1024 .bf16) (x7 : Vec Ideal S8x256x768 .f32) (x8 x9 : Vec Ideal S1x128 .f32) (r : Fin 256) (d : Fin 128) :
    head6 i x0 x1 x2 x3 x4 x5 x6 x7 x8 x9 (ix2 r d) = headVal i x0 x1 x2 x3 x4 x5 x6 x7 x8 x9 6 r d := by
  unfold head6
  rw [headOut_at, ld_whole, ld_whole, ld_whole, ld_whole, ld_whole, ld_whole]
  unfold headVal lane8
  pointwise

theorem head7_at (i : grid1.Coords) (x0 x1 x2 x3 x4 x5 x6 : Vec Ideal S256x1024 .bf16) (x7 : Vec Ideal S8x256x768 .f32) (x8 x9 : Vec Ideal S1x128 .f32) (r : Fin 256) (d : Fin 128) :
    head7 i x0 x1 x2 x3 x4 x5 x6 x7 x8 x9 (ix2 r d) = headVal i x0 x1 x2 x3 x4 x5 x6 x7 x8 x9 7 r d := by
  unfold head7
  rw [headOut_at, ld_whole, ld_whole, ld_whole, ld_whole, ld_whole, ld_whole]
  unfold headVal lane8
  pointwise

theorem out_at (i : grid1.Coords) (x0 x1 x2 x3 x4 x5 x6 : Vec Ideal S256x1024 .bf16) (x7 : Vec Ideal S8x256x768 .f32) (x8 x9 : Vec Ideal S1x128 .f32) (r : Fin 256) (h : Fin 8) (d : Fin 128) :
    out1_10 i x0 x1 x2 x3 x4 x5 x6 x7 x8 x9 (ix2 r (lane8 h d)) = headVal i x0 x1 x2 x3 x4 x5 x6 x7 x8 x9 h r d := by
  rw [out_eq]
  frame_out
  pointwise
  unfold lane8
  have hd := d.isLt
  fin_vals h with hk
  · obtain rfl : h = 0 := Fin.ext hk
    refine Eq.trans ?_ (head0_at i x0 x1 x2 x3 x4 x5 x6 x7 x8 x9 r d)
    rw [dif_pos (by simp only [hk]; omega)]
    congr 2; apply Fin.ext; simp only [hk]; omega
  · obtain rfl : h = 1 := Fin.ext hk
    refine Eq.trans ?_ (head1_at i x0 x1 x2 x3 x4 x5 x6 x7 x8 x9 r d)
    rw [dif_neg (by simp only [hk]; omega)]
    rw [dif_pos (by simp only [hk]; omega)]
    congr 2; apply Fin.ext; simp only [hk]; omega
  · obtain rfl : h = 2 := Fin.ext hk
    refine Eq.trans ?_ (head2_at i x0 x1 x2 x3 x4 x5 x6 x7 x8 x9 r d)
    rw [dif_neg (by simp only [hk]; omega)]
    rw [dif_neg (by simp only [hk]; omega)]
    rw [dif_pos (by simp only [hk]; omega)]
    congr 2; apply Fin.ext; simp only [hk]; omega
  · obtain rfl : h = 3 := Fin.ext hk
    refine Eq.trans ?_ (head3_at i x0 x1 x2 x3 x4 x5 x6 x7 x8 x9 r d)
    rw [dif_neg (by simp only [hk]; omega)]
    rw [dif_neg (by simp only [hk]; omega)]
    rw [dif_neg (by simp only [hk]; omega)]
    rw [dif_pos (by simp only [hk]; omega)]
    congr 2; apply Fin.ext; simp only [hk]; omega
  · obtain rfl : h = 4 := Fin.ext hk
    refine Eq.trans ?_ (head4_at i x0 x1 x2 x3 x4 x5 x6 x7 x8 x9 r d)
    rw [dif_neg (by simp only [hk]; omega)]
    rw [dif_neg (by simp only [hk]; omega)]
    rw [dif_neg (by simp only [hk]; omega)]
    rw [dif_neg (by simp only [hk]; omega)]
    rw [dif_pos (by simp only [hk]; omega)]
    congr 2; apply Fin.ext; simp only [hk]; omega
  · obtain rfl : h = 5 := Fin.ext hk
    refine Eq.trans ?_ (head5_at i x0 x1 x2 x3 x4 x5 x6 x7 x8 x9 r d)
    rw [dif_neg (by simp only [hk]; omega)]
    rw [dif_neg (by simp only [hk]; omega)]
    rw [dif_neg (by simp only [hk]; omega)]
    rw [dif_neg (by simp only [hk]; omega)]
    rw [dif_neg (by simp only [hk]; omega)]
    rw [dif_pos (by simp only [hk]; omega)]
    congr 2; apply Fin.ext; simp only [hk]; omega
  · obtain rfl : h = 6 := Fin.ext hk
    refine Eq.trans ?_ (head6_at i x0 x1 x2 x3 x4 x5 x6 x7 x8 x9 r d)
    rw [dif_neg (by simp only [hk]; omega)]
    rw [dif_neg (by simp only [hk]; omega)]
    rw [dif_neg (by simp only [hk]; omega)]
    rw [dif_neg (by simp only [hk]; omega)]
    rw [dif_neg (by simp only [hk]; omega)]
    rw [dif_neg (by simp only [hk]; omega)]
    rw [dif_pos (by simp only [hk]; omega)]
    congr 2; apply Fin.ext; simp only [hk]; omega
  · obtain rfl : h = 7 := Fin.ext hk
    refine Eq.trans ?_ (head7_at i x0 x1 x2 x3 x4 x5 x6 x7 x8 x9 r d)
    rw [dif_neg (by simp only [hk]; omega)]
    rw [dif_neg (by simp only [hk]; omega)]
    rw [dif_neg (by simp only [hk]; omega)]
    rw [dif_neg (by simp only [hk]; omega)]
    rw [dif_neg (by simp only [hk]; omega)]
    rw [dif_neg (by simp only [hk]; omega)]
    rw [dif_neg (by simp only [hk]; omega)]
    congr 2; apply Fin.ext; simp only [hk]; omega

end Cert.KernelIdeal.Attn

end
-- ==== Proof.Block.lean ====
module

public import proofs.«01_k».proof.Proof.HeadAt

@[expose] public section

set_option maxRecDepth 16384

noncomputable section

open Idealize.ShloMosaic Idealize.ShloMosaic.TcCoe Idealize.SL.Sem
open Idealize.ShloMosaic.Pipeline (Dat)
open Cert.Attn

namespace Cert.KernelIdeal.Attn

open Cert.KernelIdeal Cert.KernelIdeal.Gen

/-- The blocks the windows of the attention read and write at each grid point. -/
theorem idx : ∀ t : Fin cfg1.N,
    win1_0.index t = ![8 * (t.val % 4) + t.val / 4 % 8, 12 + t.val / 32]
    ∧ win1_1.index t = ![8 * (t.val % 4) + (t.val / 4 % 8 - 2), 14 + t.val / 32]
    ∧ win1_2.index t = ![8 * (t.val % 4) + (t.val / 4 % 8 - 1), 14 + t.val / 32]
    ∧ win1_3.index t = ![8 * (t.val % 4) + t.val / 4 % 8, 14 + t.val / 32]
    ∧ win1_4.index t = ![8 * (t.val % 4) + (t.val / 4 % 8 - 2), 16 + t.val / 32]
    ∧ win1_5.index t = ![8 * (t.val % 4) + (t.val / 4 % 8 - 1), 16 + t.val / 32]
    ∧ win1_6.index t = ![8 * (t.val % 4) + t.val / 4 % 8, 16 + t.val / 32]
    ∧ win1_7.index t = ![t.val / 32, 0, 0]
    ∧ win1_8.index t = ![0, 0]
    ∧ win1_9.index t = ![0, 0]
    ∧ win1_10.index t = ![8 * (t.val % 4) + t.val / 4 % 8, t.val / 32]
    ∧ (grid1.coords t 1).val = t.val / 4 % 8 :=
  (by decide +kernel : ∀ t : Fin grid1.N, _)

/-- The row of the projection that stands at place `k` of the key window of row `T`. -/
def krow (T : Fin 8192) (k : Fin 768) : Fin 8192 :=
  ⟨2048 * (T.val / 2048) + 256 * (T.val / 256 % 8 - (2 - k.val / 256)) + k.val % 256, by omega⟩

/-- The result array as a function of the projection, the bias table and the gains. -/
def kerOut (p : FVec Ideal S8192x26624 .bf16) (tb : FVec Ideal S16x256x768 .f32) (gq gk : FVec Ideal S1x128 .f32) (T : Fin 8192) (L : Fin 2048) : EReal :=
  mixed (fun k => msk (BitVec.ofNat 32 (T.val / 256 % 8)) k
      (sc (rn (fun x => p (ix2 T ⟨12288 + 128 * (L.val / 128) + x.val, by omega⟩)) (fun x => gq (ix2 0 x)))
        (rn (fun x => p (ix2 (krow T k) ⟨14336 + 128 * (L.val / 128) + x.val, by omega⟩)) (fun x => gk (ix2 0 x)))
        (tb (ix3 ⟨L.val / 128, by omega⟩ ⟨T.val % 256, by omega⟩ k))))
    (fun k => p (ix2 (krow T k) ⟨16384 + L.val, by omega⟩))

section Reads
variable (V : (c : Dev nD) → (b : Ref sig .tc) → Buf (Elt Ideal) ((c : Thread nD τ).loc b)) (c : Dev nD) (t : Fin cfg1.N)

/-- The row of the array that row `r` of the output block of point `t` is. -/
def rowOf (r : Fin 256) : Fin 8192 := ⟨256 * (8 * (t.val % 4) + t.val / 4 % 8) + r.val, by omega⟩

/-- The lane of the array that lane `l` of the output block of point `t` is. -/
def laneOf (l : Fin 1024) : Fin 2048 :=
  ⟨1024 * (t.val / 32) + l.val, by have h : t.val < 64 := t.isLt; omega⟩

theorem krow_rowOf (r : Fin 256) (k : Fin 768) : krow (rowOf t r) k
    = ⟨2048 * (t.val % 4) + 256 * (t.val / 4 % 8 - (2 - k.val / 256)) + k.val % 256, by omega⟩ := by
  apply Fin.ext
  unfold krow rowOf
  dsimp only
  have h1 : (256 * (8 * (t.val % 4) + t.val / 4 % 8) + r.val) / 2048 = t.val % 4 := by omega
  have h2 : (256 * (8 * (t.val % 4) + t.val / 4 % 8) + r.val) / 256 % 8 = t.val / 4 % 8 := by omega
  rw [h1, h2]

theorem read_q (r : Fin 256) (l : Fin 1024) :
    iblk1 V c 0 t (ix2 r l) = V c main_arg0 (ix2 (rowOf t r) ⟨12288 + (laneOf t l).val, by omega⟩) := by
  unfold rowOf laneOf
  blk_ext [iblk1, idx t]

theorem read_k (k : Fin 768) (l : Fin 1024) (r : Fin 256) :
    stack3 (F := Ideal) (iblk1 V c 1 t) (iblk1 V c 2 t) (iblk1 V c 3 t) (ix2 k l) = V c main_arg0 (ix2 (krow (rowOf t r) k) ⟨14336 + (laneOf t l).val, by omega⟩) := by
  rw [krow_rowOf]
  unfold laneOf
  pointwise [stack3]
  split
  · rename_i hk
    have h1 : k.val / 256 = 0 := by omega
    have h2 : k.val % 256 = k.val := by omega
    blk_ext [iblk1, idx t, h1, h2]
  · split <;> blk_ext [iblk1, idx t]

theorem read_v (k : Fin 768) (l : Fin 1024) (r : Fin 256) :
    stack3 (F := Ideal) (iblk1 V c 4 t) (iblk1 V c 5 t) (iblk1 V c 6 t) (ix2 k l) = V c main_arg0 (ix2 (krow (rowOf t r) k) ⟨16384 + (laneOf t l).val, by omega⟩) := by
  rw [krow_rowOf]
  unfold laneOf
  pointwise [stack3]
  split
  · rename_i hk
    have h1 : k.val / 256 = 0 := by omega
    have h2 : k.val % 256 = k.val := by omega
    blk_ext [iblk1, idx t, h1, h2]
  · split <;> blk_ext [iblk1, idx t]

theorem read_t (h : Fin 8) (r : Fin 256) (k : Fin 768) :
    iblk1 V c 7 t (ix3 h r k) = V c main_v6 (ix3 ⟨8 * (t.val / 32) + h.val, by have h : t.val < 64 := t.isLt; omega⟩ r k) := by
  blk_ext [iblk1, idx t]

theorem read_gq (x : Fin 128) : iblk1 V c 8 t (ix2 0 x) = V c main_v7 (ix2 0 x) := by
  blk_ext [iblk1, idx t]

theorem read_gk (x : Fin 128) : iblk1 V c 9 t (ix2 0 x) = V c main_v8 (ix2 0 x) := by
  blk_ext [iblk1, idx t]

/-- The output block of a point is its part of the array. -/
theorem point (r : Fin 256) (l : Fin 1024) :
    out1_10 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix2 r l)
      = kerOut (V c main_arg0) (V c main_v6) (V c main_v7) (V c main_v8) (rowOf t r) (laneOf t l) := by
  have ht : t.val < 64 := t.isLt
  obtain ⟨h, d, rfl⟩ : ∃ (h : Fin 8) (d : Fin 128), l = lane8 h d :=
    ⟨⟨l.val / 128, by omega⟩, ⟨l.val % 128, by omega⟩, Fin.ext (by simp only [lane8]; omega)⟩
  rw [out_at]
  unfold headVal kerOut
  simp only [read_q, read_k V c t _ _ r, read_v V c t _ _ r, read_t, read_gq, read_gk, (idx t).2.2.2.2.2.2.2.2.2.2.2]
  have e1 : (rowOf t r).val / 256 % 8 = t.val / 4 % 8 := by unfold rowOf; dsimp only; omega
  have e2 : ∀ x, (laneOf t (lane8 h x)).val = 128 * ((laneOf t (lane8 h d)).val / 128) + x.val := by
    intro x; unfold laneOf lane8; dsimp only; omega
  have e3 : (⟨8 * (t.val / 32) + h.val, by omega⟩ : Fin 16) = ⟨(laneOf t (lane8 h d)).val / 128, by omega⟩ := by
    apply Fin.ext; unfold laneOf lane8; dsimp only; omega
  have e4 : (⟨(rowOf t r).val % 256, by omega⟩ : Fin 256) = r := by
    apply Fin.ext; unfold rowOf; dsimp only; omega
  have e5 : ∀ (a : ℕ) (ha : a ≤ 20480) (x : Fin 128), (⟨a + (laneOf t (lane8 h x)).val, by omega⟩ : Fin 26624) = ⟨a + 128 * ((laneOf t (lane8 h d)).val / 128) + x.val, by omega⟩ := by
    intro a ha x; apply Fin.ext; dsimp only; rw [e2 x]; omega
  simp only [e1, e3, e4, e5 12288 (by omega), e5 14336 (by omega)]

end Reads

/-- The result array after the second pipeline. -/
theorem arr (V : (c : Dev nD) → (b : Ref sig .tc) → Buf (Elt Ideal) ((c : Thread nD τ).loc b)) (c : Dev nD) :
    (dat1 V c).arrAt 10 cfg1.N = fun y => kerOut (V c main_arg0) (V c main_v6) (V c main_v7) (V c main_v8) (y 0) (y 1) := by
  refine (dat1 V c).arrAt_eq_of_covers 10 _ (by decide +kernel) fun t _ y => ?_
  blk_simp
  rw [after1_10]
  idx_vars y
  refine (point V c t _ _).trans ?_
  have h0 : rowOf t y0 = (win1_10.blk t).view.emb (ix2 y0 y1) 0 := by
    apply Fin.ext; unfold rowOf; blk_simp [idx t]; dsimp only; omega
  have h1 : laneOf t y1 = (win1_10.blk t).view.emb (ix2 y0 y1) 1 := by
    apply Fin.ext; unfold laneOf; blk_simp [idx t]; dsimp only; omega
  rw [h0, h1]

end Cert.KernelIdeal.Attn

end
-- ==== Proof.Table.lean ====
module

public import proofs.«01_k».proof.Proof.HeadAt
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open Cert.Attn

namespace Cert.KernelIdeal.Attn

open Cert.KernelIdeal Cert.KernelIdeal.Gen

variable (m : (ℓ : Loc nD τ sig) → Buf (Elt Ideal) ℓ) (ρ : Dev nD → PrngReg)

/-- Which bias stands in lane `i` of the unrolled table. -/
def litN (i : ℕ) : ℕ := if i < 768 then min (575 - i) 191 else 191

theorem litN_lt (i : ℕ) : litN i < 192 := by unfold litN; split <;> omega

theorem lit_val : ∀ i : Fin 1024, lit0 i = BitVec.ofNat 32 (litN i.val) := by
  decide +kernel

theorem lit_toInt : ∀ i : Fin 192, min ((BitVec.ofNat 32 i.val).toInt).toNat 191 = i.val := by
  decide +kernel

theorem idx0 : ∀ t : Fin cfg0.N, win0_0.index t = ![t.val, 0, 0] ∧ win0_1.index t = ![t.val, 0, 0] :=
  (by decide +kernel : ∀ t : Fin grid0.N, _)

/-- The gather that lays the biases out reads column `b` where its index word is `b`. -/
theorem gather_bias (x : FVec Ideal S16x192 .f32) (ix : IVec S1024x1 32) (h : Fin 16) (i : Fin 1024) (b : Fin 192)
    (hb : ix (ix2 i 0) = BitVec.ofNat 32 b.val) :
    Host.gather gather_S16x192_S1024x1_S16x1024_0_1_n_n_1_1_161 x ix (ix2 h i) = x (ix2 h b) := by
  unfold Host.gather
  refine congrArg x (funext fun a => Fin.ext ?_)
  match a with
  | ⟨0, _⟩ =>
    have e1 : GatherDims.start gather_S16x192_S1024x1_S16x1024_0_1_n_n_1_1_161 (ix2 h i) ix 0 = 0 := rfl
    have e2 : GatherDims.batchCoord gather_S16x192_S1024x1_S16x1024_0_1_n_n_1_1_161 (ix2 h i) 0 = 0 := rfl
    have e3 : GatherDims.offCoord gather_S16x192_S1024x1_S16x1024_0_1_n_n_1_1_161 (ix2 h i) 0 = h.val := rfl
    show GatherDims.start _ _ ix 0 + GatherDims.batchCoord _ _ 0 + GatherDims.offCoord _ _ 0 = h.val
    rw [e1, e2, e3]; omega
  | ⟨1, _⟩ =>
    have e0 : GatherDims.siIdx gather_S16x192_S1024x1_S16x1024_0_1_n_n_1_1_161 (ix2 h i) ⟨0, Nat.one_pos⟩ = ix2 i 0 := by
      funext b'
      match b' with
      | ⟨0, _⟩ => rfl
      | ⟨1, _⟩ => rfl
    have e1 : GatherDims.start gather_S16x192_S1024x1_S16x1024_0_1_n_n_1_1_161 (ix2 h i) ix 1
      = min (ix (GatherDims.siIdx gather_S16x192_S1024x1_S16x1024_0_1_n_n_1_1_161 (ix2 h i) ⟨0, Nat.one_pos⟩)).toInt.toNat 191 := rfl
    have e2 : GatherDims.batchCoord gather_S16x192_S1024x1_S16x1024_0_1_n_n_1_1_161 (ix2 h i) 1 = 0 := rfl
    have e3 : GatherDims.offCoord gather_S16x192_S1024x1_S16x1024_0_1_n_n_1_1_161 (ix2 h i) 1 = 0 := rfl
    show GatherDims.start _ _ ix 1 + GatherDims.batchCoord _ _ 1 + GatherDims.offCoord _ _ 1 = b.val
    rw [e1, e2, e3, e0, hb, lit_toInt b]; omega

/-- The unrolled biases before the table is made. -/
theorem lanes (c : Dev nD) (h : Fin 16) (i : Fin 1024) :
    (show EReal from W1 m ρ c (Proc.devRef .tc main_v5) (ix3 h 0 i))
      = (show EReal from m ((c : Thread nD τ).loc main_arg1) (ix2 h ⟨litN i.val, litN_lt i.val⟩)) := by
  unfold W1
  after_reads_at
  refine gather_bias _ _ h i ⟨litN i.val, litN_lt i.val⟩ ?_
  pointwise
  exact (congrArg lit0 (a₁ := S1024.rowMajor (ix1 i)) (a₂ := i) (Fin.ext (rowMajor_val1 _))).trans (lit_val i)

theorem shr_val : ∀ k : Fin 768, IntOp.shrsi ArithUnit.vector (BitVec.ofNat 32 k.val) 6#32 = BitVec.ofNat 32 (k.val / 64) := by
  decide +kernel

theorem band_val : ∀ (a : Fin 12) (b : Fin 4), IntOp.andi (IntOp.cmpi .sle (IntOp.subi (BitVec.ofNat 32 a.val) 8#32) (BitVec.ofNat 32 b.val))
    (IntOp.cmpi .sge (IntOp.subi (BitVec.ofNat 32 a.val) 8#32) (IntOp.subi (BitVec.ofNat 32 b.val) 8#32))
      = BitVec.ofBool (decide (b.val ≤ a.val ∧ a.val ≤ b.val + 8)) := by
  decide +kernel

/-- The table of one head at an entry. -/
theorem pay_at (x : Vec Ideal S1x1x1024 .f32) (r : Fin 256) (k : Fin 768) : k0_pay1 x (ix3 0 r k)
    = if r.val / 64 ≤ k.val / 64 ∧ k.val / 64 ≤ r.val / 64 + 8 then x (ix3 0 0 ⟨(k.val + 1024 - r.val) % 1024, by omega⟩) else ⊥ := by
  pointwise [k0_pay1]
  rw [shr_val k, shr_val ⟨r.val, by omega⟩, band_val ⟨k.val / 64, by omega⟩ ⟨r.val / 64, by omega⟩, cbot]
  have e : (⟨(k.val + 1024 - r.val % 1024) % 1024, by omega⟩ : Fin 1024) = ⟨(k.val + 1024 - r.val) % 1024, by omega⟩ := by
    apply Fin.ext; dsimp only; omega
  rw [e]
  by_cases hb : r.val / 64 ≤ k.val / 64 ∧ k.val / 64 ≤ r.val / 64 + 8
  · rw [if_pos hb, decide_eq_true hb]; rfl
  · rw [if_neg hb, decide_eq_false hb]; rfl

/-- The table after the first pipeline. -/
theorem tab (V : (c : Dev nD) → (b : Ref sig .tc) → Buf (Elt Ideal) ((c : Thread nD τ).loc b)) (c : Dev nD) :
    (dat0 V c).arrAt 1 cfg0.N = fun y => k0_pay1 (F := Ideal) (fun j => V c main_v5 (ix3 (y 0) 0 (j 2))) (ix3 0 (y 1) (y 2)) := by
  refine (dat0 V c).arrAt_eq_of_covers 1 _ (by decide +kernel) fun t _ y => ?_
  blk_simp
  rw [after0_1]
  frame_out
  idx_vars y
  have h0 : (⟨t.val, t.isLt⟩ : Fin 16) = (win0_1.blk t).view.emb (ix3 0 y1 y2) 0 := by
    apply Fin.ext; blk_simp [idx0 t]; dsimp only; omega
  have h1 : y1 = (win0_1.blk t).view.emb (ix3 0 y1 y2) 1 := by
    apply Fin.ext; blk_simp [idx0 t]
  have h2 : y2 = (win0_1.blk t).view.emb (ix3 0 y1 y2) 2 := by
    apply Fin.ext; blk_simp [idx0 t]
  have hx : iblk0 V c 0 t = fun j => V c main_v5 (ix3 ⟨t.val, t.isLt⟩ 0 (j 2)) := by
    funext j
    idx_vars j
    blk_ext [iblk0, idx0 t]
  obtain rfl : y0 = 0 := Subsingleton.elim _ _
  show k0_pay1 (F := Ideal) (iblk0 V c 0 t) (ix3 0 y1 y2)
    = k0_pay1 (F := Ideal) (fun j => V c main_v5 (ix3 ((win0_1.blk t).view.emb (ix3 0 y1 y2) 0) 0 (j 2)))
      (ix3 0 ((win0_1.blk t).view.emb (ix3 0 y1 y2) 1) ((win0_1.blk t).view.emb (ix3 0 y1 y2) 2))
  rw [← h0, ← h1, ← h2, hx]; rfl

end Cert.KernelIdeal.Attn

end
-- ==== Proof.Value.lean ====
module

public import proofs.«01_k».proof.Proof.Run
public import proofs.«01_k».proof.Proof.Block
public import proofs.«01_k».proof.Proof.Table

@[expose] public section

set_option maxRecDepth 16384

noncomputable section

open Idealize.ShloMosaic Idealize.ShloMosaic.TcCoe Idealize.SL.Sem
open Cert.Attn

namespace Cert.KernelIdeal.Attn

open Cert.KernelIdeal Cert.KernelIdeal.Gen

variable (m : (ℓ : Loc nD τ sig) → Buf (Elt Ideal) ℓ) (ρ : Dev nD → PrngReg)

/-- The projection's entry. -/
abbrev pj (c : Dev nD) (t : Fin 8192) (l : Fin 26624) : EReal := (m ((c : Thread nD τ).loc main_arg0) : FVec Ideal S8192x26624 .bf16) (ix2 t l)

/-- The bias table's entry. -/
abbrev rb (c : Dev nD) (h : Fin 16) (i : Fin 192) : EReal := (m ((c : Thread nD τ).loc main_arg1) : FVec Ideal S16x192 .f32) (ix2 h i)

/-- The queries' gains. -/
abbrev gq (c : Dev nD) (d : Fin 128) : EReal := (m ((c : Thread nD τ).loc main_arg2) : FVec Ideal S128 .f32) (ix1 d)

/-- The keys' gains. -/
abbrev gk (c : Dev nD) (d : Fin 128) : EReal := (m ((c : Thread nD τ).loc main_arg3) : FVec Ideal S128 .f32) (ix1 d)

theorem V3_proj (c : Dev nD) : V3 m ρ c main_arg0 = m ((c : Thread nD τ).loc main_arg0) := W3_args m ρ c main_arg0 (by decide)

/-- The bias of a query row against a place of its key window, −∞ outside the band. -/
def tb (c : Dev nD) (h : Fin 16) (r : Fin 256) (k : Fin 768) : EReal :=
  if r.val / 64 ≤ k.val / 64 ∧ k.val / 64 ≤ r.val / 64 + 8 then rb m c h ⟨litN ((k.val + 1024 - r.val) % 1024), litN_lt _⟩ else ⊥

theorem V3_tab (c : Dev nD) (h : Fin 16) (r : Fin 256) (k : Fin 768) :
    (V3 m ρ c main_v6 : FVec Ideal S16x256x768 .f32) (ix3 h r k) = tb m c h r k := by
  have e : V3 m ρ c main_v6 = (dat0 (V1 m ρ) c).arrAt 1 cfg0.N :=
    (W3_of m ρ c main_v6 (by decide)).trans (W2_arr m ρ c 1)
  rw [e, tab]
  refine (pay_at _ r k).trans ?_
  unfold tb
  split
  · exact lanes m ρ c h _
  · rfl

theorem V3_gq (c : Dev nD) (x : Fin 128) : (V3 m ρ c main_v7 : FVec Ideal S1x128 .f32) (ix2 0 x) = gq m c x := by
  have e : ∀ b, W2 m ρ c (Proc.devRef .tc main_arg2) b = m ((c : Thread nD τ).loc main_arg2) b := congrFun (W2_args m ρ c main_arg2 (by decide))
  show W3 m ρ c (Proc.devRef .tc main_v7) (ix2 0 x) = _
  unfold W3
  after_reads_at
  exact e _

theorem V3_gk (c : Dev nD) (x : Fin 128) : (V3 m ρ c main_v8 : FVec Ideal S1x128 .f32) (ix2 0 x) = gk m c x := by
  have e : ∀ b, W2 m ρ c (Proc.devRef .tc main_arg3) b = m ((c : Thread nD τ).loc main_arg3) b := congrFun (W2_args m ρ c main_arg3 (by decide))
  show W3 m ρ c (Proc.devRef .tc main_v8) (ix2 0 x) = _
  unfold W3
  after_reads_at
  exact e _

/-- The masked score of a place of the key window. -/
def kerS (c : Dev nD) (T : Fin 8192) (L : Fin 2048) (k : Fin 768) : EReal :=
  msk (BitVec.ofNat 32 (T.val / 256 % 8)) k
    (sc (rn (fun x => pj m c T ⟨12288 + 128 * (L.val / 128) + x.val, by omega⟩) (gq m c))
      (rn (fun x => pj m c (krow T k) ⟨14336 + 128 * (L.val / 128) + x.val, by omega⟩) (gk m c))
      (tb m c ⟨L.val / 128, by omega⟩ ⟨T.val % 256, by omega⟩ k))

/-- The value of a place of the key window. -/
def kerV (c : Dev nD) (T : Fin 8192) (L : Fin 2048) (k : Fin 768) : EReal := pj m c (krow T k) ⟨16384 + L.val, by omega⟩

theorem kerOut_eq (c : Dev nD) (t6 : FVec Ideal S16x256x768 .f32) (t7 t8 : FVec Ideal S1x128 .f32)
    (h6 : ∀ h r k, t6 (ix3 h r k) = tb m c h r k) (h7 : ∀ x, t7 (ix2 0 x) = gq m c x) (h8 : ∀ x, t8 (ix2 0 x) = gk m c x)
    (T : Fin 8192) (L : Fin 2048) :
    kerOut (m ((c : Thread nD τ).loc main_arg0)) t6 t7 t8 T L = mixed (kerS m c T L) (kerV m c T L) := by
  unfold kerOut
  simp only [h6, h7, h8]
  rfl

/-- The result array. -/
theorem out_val (c : Dev nD) : W4 m ρ c (Proc.devRef .tc main_v9)
    = fun y : (⟨2, ![8192, 2048]⟩ : Shape).Idx => mixed (kerS m c (y 0) (y 1)) (kerV m c (y 0) (y 1)) := by
  refine (W4_arr m ρ c 10).trans ?_
  rw [arr]
  exact funext fun y => by
    rw [V3_proj]
    exact kerOut_eq m c _ _ _ (V3_tab m ρ c) (V3_gq m ρ c) (V3_gk m ρ c) (y 0) (y 1)

end Cert.KernelIdeal.Attn

end
-- ==== Proof.Ref.lean ====
module

public import proofs.«01_k».proof.Proof.Gen.ReferenceIdeal.Run
public import proofs.«01_k».proof.Proof.Math
public import Idealize.ShloMosaic.Lib.Tactic

@[expose] public section

set_option maxRecDepth 16384

noncomputable section

open Idealize.ShloMosaic Idealize.ShloMosaic.TcCoe Idealize.SL.Sem
open Cert.Attn

namespace Cert.ReferenceIdeal.Attn

open Cert.ReferenceIdeal Cert.ReferenceIdeal.Gen Cert.ReferenceIdeal.Value

/-- Where each chunk takes its band of keys. -/
def startA (m : (ℓ : Loc nD τ sig) → Buf (Elt Ideal) ℓ) (c : Dev nD) : IVec S32x4 32 :=
  concatenate S32x4 1 [⟨S32x1, ((broadcastInDim S32x1 ![] bcast_S_S32x1 (constantI S_ 32 0#32)) : (⟨S32x1, .i32⟩ : BufTy).Contents (Elt Ideal))⟩, ⟨S32x1, ((broadcastInDim S32x1 ![] bcast_S_S32x1 (constantI S_ 32 0#32)) : (⟨S32x1, .i32⟩ : BufTy).Contents (Elt Ideal))⟩, ⟨S32x1, ((broadcastInDim S32x1 ![0] bcast_S32_S32x1_0 (select (cmpi .slt (muli (iotaInDim S32 32 0) (broadcastInDim S32 ![] bcast_S_S32 (constantI S_ 32 64#32))) (broadcastInDim S32 ![] bcast_S_S32 (constantI S_ 32 0#32))) (addi (muli (iotaInDim S32 32 0) (broadcastInDim S32 ![] bcast_S_S32 (constantI S_ 32 64#32))) (broadcastInDim S32 ![] bcast_S_S32 (constantI S_ 32 2560#32))) (muli (iotaInDim S32 32 0) (broadcastInDim S32 ![] bcast_S_S32 (constantI S_ 32 64#32))))) : (⟨S32x1, .i32⟩ : BufTy).Contents (Elt Ideal))⟩, ⟨S32x1, ((broadcastInDim S32x1 ![] bcast_S_S32x1 (constantI S_ 32 0#32)) : (⟨S32x1, .i32⟩ : BufTy).Contents (Elt Ideal))⟩] concatenates_S32x1_S32x1_S32x1_S32x1_S32x4_d1

/-- The normed keys, a band of zero rows before them. -/
def keyA (m : (ℓ : Loc nD τ sig) → Buf (Elt Ideal) ℓ) (c : Dev nD) : FVec Ideal S4x16x2560x128 .f32 :=
  pad S4x16x2560x128 ![0, 0, 512, 0] ![0, 0, 0, 0] ![0, 0, 0, 0] (transpose S4x16x2048x128 [0, 2, 1, 3] (mulf (mulf (shapeCast _ (extf .f32 (extractStridedSlice S8192x2048 ![0, 14336] (m ((c.tc : Thread nD τ).loc main_arg0)) slices_S8192x26624_S8192x2048_0_14336) bitsLt_bf16_f32) shapeCasts_S8192x2048_S4x2048x16x128) (broadcastInDim S4x2048x16x128 ![0, 1, 2, 3] bcast_S4x2048x16x1_S4x2048x16x128_0_1_2_3 (Host.rsqrt (addf (Host.divf (broadcastInDim S4x2048x16x1 ![0, 1, 2] bcast_S4x2048x16_S4x2048x16x1_0_1_2 (Host.reduceAdd (mulf (shapeCast _ (extf .f32 (extractStridedSlice S8192x2048 ![0, 14336] (m ((c.tc : Thread nD τ).loc main_arg0)) slices_S8192x26624_S8192x2048_0_14336) bitsLt_bf16_f32) shapeCasts_S8192x2048_S4x2048x16x128) (shapeCast _ (extf .f32 (extractStridedSlice S8192x2048 ![0, 14336] (m ((c.tc : Thread nD τ).loc main_arg0)) slices_S8192x26624_S8192x2048_0_14336) bitsLt_bf16_f32) shapeCasts_S8192x2048_S4x2048x16x128)) (constant S_ .f32 0x00000000#32) reducesTo_S4x2048x16x128_S4x2048x16_d3 h_S_)) (broadcastInDim S4x2048x16x1 ![] bcast_S_S4x2048x16x1 (constant S_ .f32 0x43000000#32))) (broadcastInDim S4x2048x16x1 ![] bcast_S_S4x2048x16x1 (constant S_ .f32 0x358637BD#32)))))) (broadcastInDim S4x2048x16x128 ![0, 1, 2, 3] bcast_S1x1x1x128_S4x2048x16x128_0_1_2_3 (broadcastInDim S1x1x1x128 ![3] bcast_S128_S1x1x1x128_3 (m ((c.tc : Thread nD τ).loc main_arg3))))) transposes_S4x2048x16x128_S4x16x2048x128_0_2_1_3) (sitofp .f32 (constantI S_ 32 0#32)) pads_S4x16x2048x128_S4x16x2560x128_000_000_51200_000 h_S_

/-- The values, a band of zero rows before them. -/
def valA (m : (ℓ : Loc nD τ sig) → Buf (Elt Ideal) ℓ) (c : Dev nD) : FVec Ideal S4x16x2560x128 .f32 :=
  pad S4x16x2560x128 ![0, 0, 512, 0] ![0, 0, 0, 0] ![0, 0, 0, 0] (transpose S4x16x2048x128 [0, 2, 1, 3] (shapeCast _ (extf .f32 (extractStridedSlice S8192x2048 ![0, 16384] (m ((c.tc : Thread nD τ).loc main_arg0)) slices_S8192x26624_S8192x2048_0_16384) bitsLt_bf16_f32) shapeCasts_S8192x2048_S4x2048x16x128) transposes_S4x2048x16x128_S4x16x2048x128_0_2_1_3) (sitofp .f32 (constantI S_ 32 0#32)) pads_S4x16x2048x128_S4x16x2560x128_000_000_51200_000 h_S_

/-- The normed queries, chunk by chunk. -/
def queryA (m : (ℓ : Loc nD τ sig) → Buf (Elt Ideal) ℓ) (c : Dev nD) : FVec Ideal S32x4x16x64x128 .f32 :=
  transpose S32x4x16x64x128 [1, 0, 3, 2, 4] (shapeCast _ (mulf (mulf (shapeCast _ (extf .f32 (extractStridedSlice S8192x2048 ![0, 12288] (m ((c.tc : Thread nD τ).loc main_arg0)) slices_S8192x26624_S8192x2048_0_12288) bitsLt_bf16_f32) shapeCasts_S8192x2048_S4x2048x16x128) (broadcastInDim S4x2048x16x128 ![0, 1, 2, 3] bcast_S4x2048x16x1_S4x2048x16x128_0_1_2_3 (Host.rsqrt (addf (Host.divf (broadcastInDim S4x2048x16x1 ![0, 1, 2] bcast_S4x2048x16_S4x2048x16x1_0_1_2 (Host.reduceAdd (mulf (shapeCast _ (extf .f32 (extractStridedSlice S8192x2048 ![0, 12288] (m ((c.tc : Thread nD τ).loc main_arg0)) slices_S8192x26624_S8192x2048_0_12288) bitsLt_bf16_f32) shapeCasts_S8192x2048_S4x2048x16x128) (shapeCast _ (extf .f32 (extractStridedSlice S8192x2048 ![0, 12288] (m ((c.tc : Thread nD τ).loc main_arg0)) slices_S8192x26624_S8192x2048_0_12288) bitsLt_bf16_f32) shapeCasts_S8192x2048_S4x2048x16x128)) (constant S_ .f32 0x00000000#32) reducesTo_S4x2048x16x128_S4x2048x16_d3 h_S_)) (broadcastInDim S4x2048x16x1 ![] bcast_S_S4x2048x16x1 (constant S_ .f32 0x43000000#32))) (broadcastInDim S4x2048x16x1 ![] bcast_S_S4x2048x16x1 (constant S_ .f32 0x358637BD#32)))))) (broadcastInDim S4x2048x16x128 ![0, 1, 2, 3] bcast_S1x1x1x128_S4x2048x16x128_0_1_2_3 (broadcastInDim S1x1x1x128 ![3] bcast_S128_S1x1x1x128_3 (m ((c.tc : Thread nD τ).loc main_arg2))))) shapeCasts_S4x2048x16x128_S4x32x64x16x128) transposes_S4x32x64x16x128_S32x4x16x64x128_1_0_3_2_4

/-- The bias of a query row against a band position. -/
def biasA (m : (ℓ : Loc nD τ sig) → Buf (Elt Ideal) ℓ) (c : Dev nD) : FVec Ideal S16x64x576 .f32 :=
  Host.gather gather_S16x192_S64x576x1_S16x64x576_0_1_n_n_1_2_161 (m ((c.tc : Thread nD τ).loc main_arg1)) (broadcastInDim S64x576x1 ![0, 1] bcast_S64x576_S64x576x1_0_1 (select (cmpi .slt (addi (minsi (subi (broadcastInDim S64x576 ![0, 1] bcast_S64x1_S64x576_0_1 (addi (broadcastInDim S64x1 ![0] bcast_S64_S64x1_0 (iotaInDim S64 32 0)) (broadcastInDim S64x1 ![] bcast_S_S64x1 (constantI S_ 32 512#32)))) (broadcastInDim S64x576 ![0, 1] bcast_S1x576_S64x576_0_1 (broadcastInDim S1x576 ![1] bcast_S576_S1x576_1 (iotaInDim S576 32 0)))) (broadcastInDim S64x576 ![] bcast_S_S64x576 (constantI S_ 32 128#32))) (broadcastInDim S64x576 ![] bcast_S_S64x576 (constantI S_ 32 63#32))) (broadcastInDim S64x576 ![] bcast_S_S64x576 (constantI S_ 32 0#32))) (addi (addi (minsi (subi (broadcastInDim S64x576 ![0, 1] bcast_S64x1_S64x576_0_1 (addi (broadcastInDim S64x1 ![0] bcast_S64_S64x1_0 (iotaInDim S64 32 0)) (broadcastInDim S64x1 ![] bcast_S_S64x1 (constantI S_ 32 512#32)))) (broadcastInDim S64x576 ![0, 1] bcast_S1x576_S64x576_0_1 (broadcastInDim S1x576 ![1] bcast_S576_S1x576_1 (iotaInDim S576 32 0)))) (broadcastInDim S64x576 ![] bcast_S_S64x576 (constantI S_ 32 128#32))) (broadcastInDim S64x576 ![] bcast_S_S64x576 (constantI S_ 32 63#32))) (broadcastInDim S64x576 ![] bcast_S_S64x576 (constantI S_ 32 192#32))) (addi (minsi (subi (broadcastInDim S64x576 ![0, 1] bcast_S64x1_S64x576_0_1 (addi (broadcastInDim S64x1 ![0] bcast_S64_S64x1_0 (iotaInDim S64 32 0)) (broadcastInDim S64x1 ![] bcast_S_S64x1 (constantI S_ 32 512#32)))) (broadcastInDim S64x576 ![0, 1] bcast_S1x576_S64x576_0_1 (broadcastInDim S1x576 ![1] bcast_S576_S1x576_1 (iotaInDim S576 32 0)))) (broadcastInDim S64x576 ![] bcast_S_S64x576 (constantI S_ 32 128#32))) (broadcastInDim S64x576 ![] bcast_S_S64x576 (constantI S_ 32 63#32)))))

/-- The masked scores. -/
def scoreA (m : (ℓ : Loc nD τ sig) → Buf (Elt Ideal) ℓ) (c : Dev nD) : FVec Ideal S32x4x16x64x576 .f32 :=
  select (broadcastInDim S32x4x16x64x576 ![0, 4] bcast_S32x576_S32x4x16x64x576_0_4 (cmpi .sge (broadcastInDim S32x576 ![0, 1] bcast_S1x576_S32x576_0_1 (broadcastInDim S1x576 ![1] bcast_S576_S1x576_1 (iotaInDim S576 32 0))) (broadcastInDim S32x576 ![0, 1] bcast_S32x1_S32x576_0_1 (broadcastInDim S32x1 ![0] bcast_S32_S32x1_0 (muli (subi (broadcastInDim S32 ![] bcast_S_S32 (constantI S_ 32 8#32)) (iotaInDim S32 32 0)) (broadcastInDim S32 ![] bcast_S_S32 (constantI S_ 32 64#32))))))) (addf (mulf (Host.dotGeneral dot_S32x4x16x64x128_S32x4x16x576x128_S32x4x16x64x576_4_4_3_3_012_012 none (queryA m c) (Host.gather gather_S4x16x2560x128_S32x4_S32x4x16x576x128_1234_n_n_n_0123_1_416576128 (keyA m c) ((startA m c)))) (broadcastInDim S32x4x16x64x576 ![] bcast_S_S32x4x16x64x576 (constant S_ .f32 0x3DB504F3#32))) (broadcastInDim S32x4x16x64x576 ![0, 1, 2, 3, 4] bcast_S1x1x16x64x576_S32x4x16x64x576_0_1_2_3_4 (broadcastInDim S1x1x16x64x576 ![1, 2, 3, 4] bcast_S1x16x64x576_S1x1x16x64x576_1_2_3_4 (broadcastInDim S1x16x64x576 ![1, 2, 3] bcast_S16x64x576_S1x16x64x576_1_2_3 (biasA m c))))) (broadcastInDim S32x4x16x64x576 ![1, 2, 3, 4] bcast_S4x16x64x576_S32x4x16x64x576_1_2_3_4 (broadcastInDim S4x16x64x576 ![] bcast_S_S4x16x64x576 (id (constant S_ .f32 0xFF800000#32))))

variable (m : (ℓ : Loc nD τ sig) → Buf (Elt Ideal) ℓ)

/-- The greatest score of a row. -/
def topA (s : FVec Ideal S32x4x16x64x576 .f32) : FVec Ideal S32x4x16x64 .f32 :=
  maximumf (broadcastInDim S32x4x16x64 ![] bcast_S_S32x4x16x64 (constant S_ .f32 0xFF800000#32)) (Host.reduce FloatOps.maximumf s (constant S_ .f32 0xFF800000#32) reducesTo_S32x4x16x64x576_S32x4x16x64_d4 h_S_)

/-- The weights. -/
def weightA (s : FVec Ideal S32x4x16x64x576 .f32) : FVec Ideal S32x4x16x64x576 .f32 :=
  Host.divf (Host.exp (subf s (broadcastInDim S32x4x16x64x576 ![0, 1, 2, 3, 4] bcast_S32x4x16x64x1_S32x4x16x64x576_0_1_2_3_4 (broadcastInDim S32x4x16x64x1 ![0, 1, 2, 3] bcast_S32x4x16x64_S32x4x16x64x1_0_1_2_3 (topA s))))) (broadcastInDim S32x4x16x64x576 ![0, 1, 2, 3, 4] bcast_S32x4x16x64x1_S32x4x16x64x576_0_1_2_3_4 (broadcastInDim S32x4x16x64x1 ![0, 1, 2, 3] bcast_S32x4x16x64_S32x4x16x64x1_0_1_2_3 (Host.reduceAdd (Host.exp (subf s (broadcastInDim S32x4x16x64x576 ![0, 1, 2, 3, 4] bcast_S32x4x16x64x1_S32x4x16x64x576_0_1_2_3_4 (broadcastInDim S32x4x16x64x1 ![0, 1, 2, 3] bcast_S32x4x16x64_S32x4x16x64x1_0_1_2_3 (topA s))))) (constant S_ .f32 0x00000000#32) reducesTo_S32x4x16x64x576_S32x4x16x64_d4 h_S_)))

/-- The weighted values, chunk by chunk. -/
def mixA (w : FVec Ideal S32x4x16x64x576 .f32) (v : FVec Ideal S32x4x16x576x128 .f32) : FVec Ideal S32x4x16x64x128 .f32 :=
  Host.dotGeneral dot_S32x4x16x64x576_S32x4x16x576x128_S32x4x16x64x128_4_3_3_4_012_012 none w v

/-- The result. -/
def outA (o : FVec Ideal S32x4x16x64x128 .f32) : FVec Ideal S8192x2048 .bf16 :=
  truncf .bf16 (shapeCast _ (transpose S4x32x64x16x128 [1, 0, 3, 2, 4] o transposes_S32x4x16x64x128_S4x32x64x16x128_1_0_3_2_4) shapeCasts_S4x32x64x16x128_S8192x2048) bitsLt_bf16_f32

theorem res_eq (c : Dev nD) : res_main_v119 m c = outA (mixA (weightA (scoreA m c)) (Host.gather gather_S4x16x2560x128_S32x4_S32x4x16x576x128_1234_n_n_n_0123_1_416576128 (valA m c) (startA m c))) := rfl

/-- The projection's entry. -/
abbrev pj (c : Dev nD) (t : Fin 8192) (l : Fin 26624) : EReal := (m ((c : Thread nD τ).loc main_arg0) : FVec Ideal S8192x26624 .bf16) (ix2 t l)

/-- The bias table's entry. -/
abbrev rb (c : Dev nD) (h : Fin 16) (i : Fin 192) : EReal := (m ((c : Thread nD τ).loc main_arg1) : FVec Ideal S16x192 .f32) (ix2 h i)

/-- The queries' gains. -/
abbrev gq (c : Dev nD) (d : Fin 128) : EReal := (m ((c : Thread nD τ).loc main_arg2) : FVec Ideal S128 .f32) (ix1 d)

/-- The keys' gains. -/
abbrev gk (c : Dev nD) (d : Fin 128) : EReal := (m ((c : Thread nD τ).loc main_arg3) : FVec Ideal S128 .f32) (ix1 d)

theorem start_val : ∀ n : Fin 32, Scalar.select
    (IntOp.cmpi CmpIPredicate.slt (IntOp.muli (BitVec.ofNat 32 n.val) 64#32) 0#32)
    (IntOp.addi (IntOp.muli (BitVec.ofNat 32 n.val) 64#32) 2560#32) (IntOp.muli (BitVec.ofNat 32 n.val) 64#32)
      = BitVec.ofNat 32 (64 * n.val) := by
  decide +kernel

theorem start_at (c : Dev nD) (n : Fin 32) : startA m c (ix2 n 2) = BitVec.ofNat 32 (64 * n.val) := by
  pointwise [startA]
  exact start_val n

theorem start_toInt : ∀ n : Fin 32, min (BitVec.ofNat 32 (64 * n.val)).toInt.toNat 1984 = 64 * n.val := by
  decide +kernel

/-- The gather of a chunk's band reads the rows from the chunk's start on. -/
theorem gather_band (x : FVec Ideal S4x16x2560x128 .f32) (ix : IVec S32x4 32) (n : Fin 32) (b : Fin 4) (h : Fin 16) (j : Fin 576) (d : Fin 128)
    (hi : ix (ix2 n 2) = BitVec.ofNat 32 (64 * n.val)) :
    Host.gather gather_S4x16x2560x128_S32x4_S32x4x16x576x128_1234_n_n_n_0123_1_416576128 x ix (ix5 n b h j d) = x (ix4 b h ⟨64 * n.val + j.val, by omega⟩ d) := by
  unfold Host.gather
  refine congrArg x (funext fun a => Fin.ext ?_)
  match a with
  | ⟨0, _⟩ =>
    have e1 : GatherDims.start gather_S4x16x2560x128_S32x4_S32x4x16x576x128_1234_n_n_n_0123_1_416576128 (ix5 n b h j d) ix 0 = min (ix (GatherDims.siIdx gather_S4x16x2560x128_S32x4_S32x4x16x576x128_1234_n_n_n_0123_1_416576128 (ix5 n b h j d) ⟨0, by decide⟩)).toInt.toNat 0 := rfl
    have e2 : GatherDims.batchCoord gather_S4x16x2560x128_S32x4_S32x4x16x576x128_1234_n_n_n_0123_1_416576128 (ix5 n b h j d) 0 = 0 := rfl
    have e3 : GatherDims.offCoord gather_S4x16x2560x128_S32x4_S32x4x16x576x128_1234_n_n_n_0123_1_416576128 (ix5 n b h j d) 0 = b.val := rfl
    show GatherDims.start _ _ ix 0 + GatherDims.batchCoord _ _ 0 + GatherDims.offCoord _ _ 0 = b.val
    rw [e1, e2, e3]; omega
  | ⟨1, _⟩ =>
    have e1 : GatherDims.start gather_S4x16x2560x128_S32x4_S32x4x16x576x128_1234_n_n_n_0123_1_416576128 (ix5 n b h j d) ix 1 = min (ix (GatherDims.siIdx gather_S4x16x2560x128_S32x4_S32x4x16x576x128_1234_n_n_n_0123_1_416576128 (ix5 n b h j d) ⟨1, by decide⟩)).toInt.toNat 0 := rfl
    have e2 : GatherDims.batchCoord gather_S4x16x2560x128_S32x4_S32x4x16x576x128_1234_n_n_n_0123_1_416576128 (ix5 n b h j d) 1 = 0 := rfl
    have e3 : GatherDims.offCoord gather_S4x16x2560x128_S32x4_S32x4x16x576x128_1234_n_n_n_0123_1_416576128 (ix5 n b h j d) 1 = h.val := rfl
    show GatherDims.start _ _ ix 1 + GatherDims.batchCoord _ _ 1 + GatherDims.offCoord _ _ 1 = h.val
    rw [e1, e2, e3]; omega
  | ⟨2, _⟩ =>
    have e0 : GatherDims.siIdx gather_S4x16x2560x128_S32x4_S32x4x16x576x128_1234_n_n_n_0123_1_416576128 (ix5 n b h j d) ⟨2, by decide⟩ = ix2 n 2 := by
      funext b'
      match b' with
      | ⟨0, _⟩ => rfl
      | ⟨1, _⟩ => rfl
    have e1 : GatherDims.start gather_S4x16x2560x128_S32x4_S32x4x16x576x128_1234_n_n_n_0123_1_416576128 (ix5 n b h j d) ix 2 = min (ix (GatherDims.siIdx gather_S4x16x2560x128_S32x4_S32x4x16x576x128_1234_n_n_n_0123_1_416576128 (ix5 n b h j d) ⟨2, by decide⟩)).toInt.toNat 1984 := rfl
    have e2 : GatherDims.batchCoord gather_S4x16x2560x128_S32x4_S32x4x16x576x128_1234_n_n_n_0123_1_416576128 (ix5 n b h j d) 2 = 0 := rfl
    have e3 : GatherDims.offCoord gather_S4x16x2560x128_S32x4_S32x4x16x576x128_1234_n_n_n_0123_1_416576128 (ix5 n b h j d) 2 = j.val := rfl
    show GatherDims.start _ _ ix 2 + GatherDims.batchCoord _ _ 2 + GatherDims.offCoord _ _ 2 = 64 * n.val + j.val
    rw [e1, e2, e3, e0, hi, start_toInt n]; omega
  | ⟨3, _⟩ =>
    have e1 : GatherDims.start gather_S4x16x2560x128_S32x4_S32x4x16x576x128_1234_n_n_n_0123_1_416576128 (ix5 n b h j d) ix 3 = min (ix (GatherDims.siIdx gather_S4x16x2560x128_S32x4_S32x4x16x576x128_1234_n_n_n_0123_1_416576128 (ix5 n b h j d) ⟨3, by decide⟩)).toInt.toNat 0 := rfl
    have e2 : GatherDims.batchCoord gather_S4x16x2560x128_S32x4_S32x4x16x576x128_1234_n_n_n_0123_1_416576128 (ix5 n b h j d) 3 = 0 := rfl
    have e3 : GatherDims.offCoord gather_S4x16x2560x128_S32x4_S32x4x16x576x128_1234_n_n_n_0123_1_416576128 (ix5 n b h j d) 3 = d.val := rfl
    show GatherDims.start _ _ ix 3 + GatherDims.batchCoord _ _ 3 + GatherDims.offCoord _ _ 3 = d.val
    rw [e1, e2, e3]; omega

theorem toInt_lane : ∀ i : Fin 192, min (BitVec.ofNat 32 i.val).toInt.toNat 191 = i.val := by
  decide +kernel

/-- The gather of the biases reads column `i` where its index word is `i`. -/
theorem gather_bias (x : FVec Ideal S16x192 .f32) (ix : IVec S64x576x1 32) (h : Fin 16) (r : Fin 64) (j : Fin 576) (i : Fin 192)
    (hi : ix (ix3 r j 0) = BitVec.ofNat 32 i.val) :
    Host.gather gather_S16x192_S64x576x1_S16x64x576_0_1_n_n_1_2_161 x ix (ix3 h r j) = x (ix2 h i) := by
  unfold Host.gather
  refine congrArg x (funext fun a => Fin.ext ?_)
  match a with
  | ⟨0, _⟩ =>
    have e1 : GatherDims.start gather_S16x192_S64x576x1_S16x64x576_0_1_n_n_1_2_161 (ix3 h r j) ix 0 = 0 := rfl
    have e2 : GatherDims.batchCoord gather_S16x192_S64x576x1_S16x64x576_0_1_n_n_1_2_161 (ix3 h r j) 0 = 0 := rfl
    have e3 : GatherDims.offCoord gather_S16x192_S64x576x1_S16x64x576_0_1_n_n_1_2_161 (ix3 h r j) 0 = h.val := rfl
    show GatherDims.start _ _ ix 0 + GatherDims.batchCoord _ _ 0 + GatherDims.offCoord _ _ 0 = h.val
    rw [e1, e2, e3]; omega
  | ⟨1, _⟩ =>
    have e0 : GatherDims.siIdx gather_S16x192_S64x576x1_S16x64x576_0_1_n_n_1_2_161 (ix3 h r j) ⟨0, Nat.one_pos⟩ = ix3 r j 0 := by
      funext b'
      match b' with
      | ⟨0, _⟩ => rfl
      | ⟨1, _⟩ => rfl
      | ⟨2, _⟩ => rfl
    have e1 : GatherDims.start gather_S16x192_S64x576x1_S16x64x576_0_1_n_n_1_2_161 (ix3 h r j) ix 1 = min (ix (GatherDims.siIdx gather_S16x192_S64x576x1_S16x64x576_0_1_n_n_1_2_161 (ix3 h r j) ⟨0, Nat.one_pos⟩)).toInt.toNat 191 := rfl
    have e2 : GatherDims.batchCoord gather_S16x192_S64x576x1_S16x64x576_0_1_n_n_1_2_161 (ix3 h r j) 1 = 0 := rfl
    have e3 : GatherDims.offCoord gather_S16x192_S64x576x1_S16x64x576_0_1_n_n_1_2_161 (ix3 h r j) 1 = 0 := rfl
    show GatherDims.start _ _ ix 1 + GatherDims.batchCoord _ _ 1 + GatherDims.offCoord _ _ 1 = i.val
    rw [e1, e2, e3, e0, hi, toInt_lane i]; omega

theorem lane_val : ∀ d : Fin 640,
    Scalar.select (IntOp.cmpi CmpIPredicate.slt (IntOp.addi (IntOp.minsi (IntOp.subi (BitVec.ofNat 32 d.val) 63#32) 128#32) 63#32) 0#32)
      (IntOp.addi (IntOp.addi (IntOp.minsi (IntOp.subi (BitVec.ofNat 32 d.val) 63#32) 128#32) 63#32) 192#32)
      (IntOp.addi (IntOp.minsi (IntOp.subi (BitVec.ofNat 32 d.val) 63#32) 128#32) 63#32) = BitVec.ofNat 32 (min d.val 191) := by
  decide +kernel

theorem rel_val (r : Fin 64) (j : Fin 576) :
    IntOp.subi (IntOp.addi (BitVec.ofNat 32 r.val) 512#32) (BitVec.ofNat 32 j.val) = IntOp.subi (BitVec.ofNat 32 (r.val + 575 - j.val)) 63#32 := by
  show BitVec.ofNat 32 r.val + 512#32 - BitVec.ofNat 32 j.val = BitVec.ofNat 32 (r.val + 575 - j.val) - 63#32
  apply BitVec.eq_of_toNat_eq
  simp only [BitVec.toNat_sub, BitVec.toNat_add, BitVec.toNat_ofNat]
  omega

theorem bias_at (c : Dev nD) (h : Fin 16) (r : Fin 64) (j : Fin 576) :
    biasA m c (ix3 h r j) = rb m c h ⟨min (r.val + 575 - j.val) 191, by omega⟩ := by
  unfold biasA
  refine gather_bias _ _ h r j ⟨min (r.val + 575 - j.val) 191, by omega⟩ ?_
  pointwise
  rw [rel_val r j]
  exact lane_val ⟨r.val + 575 - j.val, by omega⟩

theorem key_at (c : Dev nD) (b : Fin 4) (h : Fin 16) (w : Fin 2560) (hw : 512 ≤ w.val) (d : Fin 128) :
    keyA m c (ix4 b h w d) = rn (fun x => pj m c ⟨b.val * 2048 + (w.val - 512), by omega⟩ ⟨14336 + (h.val * 128 + x.val), by omega⟩) (gk m c) d := by
  pointwise [keyA]
  rw [dif_pos ⟨hw, by omega⟩]
  rfl

theorem val_at (c : Dev nD) (b : Fin 4) (h : Fin 16) (w : Fin 2560) (hw : 512 ≤ w.val) (d : Fin 128) :
    valA m c (ix4 b h w d) = pj m c ⟨b.val * 2048 + (w.val - 512), by omega⟩ ⟨16384 + (h.val * 128 + d.val), by omega⟩ := by
  pointwise [valA]
  rw [dif_pos ⟨hw, by omega⟩]

theorem query_at (c : Dev nD) (n : Fin 32) (b : Fin 4) (h : Fin 16) (r : Fin 64) (d : Fin 128) :
    queryA m c (ix5 n b h r d)
      = rn (fun x => pj m c ⟨b.val * 2048 + (n.val * 64 + r.val), by omega⟩ ⟨12288 + (h.val * 128 + x.val), by omega⟩) (gq m c) d := by
  pointwise [queryA]
  rfl

theorem sge_val : ∀ (n : Fin 32) (j : Fin 576),
    IntOp.cmpi CmpIPredicate.sge (BitVec.ofNat 32 j.val) (IntOp.muli (IntOp.subi (8#32) (BitVec.ofNat 32 n.val)) 64#32)
      = BitVec.ofBool (decide (512 ≤ 64 * n.val + j.val)) := by
  decide +kernel

/-- The masked score of a band position. -/
def refS (c : Dev nD) (n : Fin 32) (b : Fin 4) (h : Fin 16) (r : Fin 64) (j : Fin 576) : EReal :=
  if 512 ≤ 64 * n.val + j.val then
    sc (rn (fun x => pj m c ⟨b.val * 2048 + (n.val * 64 + r.val), by omega⟩ ⟨12288 + (h.val * 128 + x.val), by omega⟩) (gq m c))
      (rn (fun x => pj m c ⟨b.val * 2048 + (64 * n.val + j.val - 512), by omega⟩ ⟨14336 + (h.val * 128 + x.val), by omega⟩) (gk m c))
      (rb m c h ⟨min (r.val + 575 - j.val) 191, by omega⟩)
  else ⊥

theorem score_at (c : Dev nD) (n : Fin 32) (b : Fin 4) (h : Fin 16) (r : Fin 64) (j : Fin 576) :
    scoreA m c (ix5 n b h r j) = refS m c n b h r j := by
  pointwise [scoreA]
  rw [sge_val n j, refS]
  by_cases hw : 512 ≤ 64 * n.val + j.val
  · rw [if_pos hw, decide_eq_true hw]
    show (∑ x, _) * _ + _ = _
    rw [sc, bias_at]
    refine congrArg₂ (· + ·) (congrArg₂ (· * ·) (Finset.sum_congr rfl fun x _ => ?_) rfl) rfl
    rw [gather_band _ _ n b h j x (start_at m c n), query_at, key_at m c b h _ hw]
  · rw [if_neg hw, decide_eq_false hw]
    exact cbot

/-- The value of a band position. -/
def refV (c : Dev nD) (n : Fin 32) (b : Fin 4) (h : Fin 16) (d : Fin 128) (j : Fin 576) : EReal :=
  valA m c (ix4 b h ⟨64 * n.val + j.val, by omega⟩ d)

end Cert.ReferenceIdeal.Attn

end
-- ==== Proof.Res.lean ====
module

public import proofs.«01_k».proof.Proof.Ref

@[expose] public section

set_option maxRecDepth 16384

noncomputable section

open Idealize.ShloMosaic Idealize.ShloMosaic.TcCoe Idealize.SL.Sem
open Cert.Attn

namespace Cert.ReferenceIdeal.Attn

open Cert.ReferenceIdeal Cert.ReferenceIdeal.Gen Cert.ReferenceIdeal.Value

variable (m : (ℓ : Loc nD τ sig) → Buf (Elt Ideal) ℓ)

/-- The greatest entry along the last of five axes. -/
theorem red_max {n0 n1 n2 n3 n4 : ℕ} {u : Shape} (h : (⟨5, ![n0, n1, n2, n3, n4]⟩ : Shape).ReducesTo [4] ⟨4, ![n0, n1, n2, n3]⟩) (hu : 0 < u.numel)
    (x : (⟨5, ![n0, n1, n2, n3, n4]⟩ : Shape).Idx → EReal) (i : u.Idx → EReal) (f : EReal → EReal → EReal) (hf : f = max)
    (a0 : Fin n0) (a1 : Fin n1) (a2 : Fin n2) (a3 : Fin n3) :
    Host.reduce f x i h hu (ix4 a0 a1 a2 a3)
      = Finset.fold max (i (Shape.Idx.first hu)) (fun k => x (ix5 a0 a1 a2 a3 k)) Finset.univ := by
  subst hf
  rw [Host.reduce_eq_fold]
  exact Shape.ReducesTo.fold_fiber_r5_a4 _ _ _ _ x

theorem top_at (s : FVec Ideal S32x4x16x64x576 .f32) (n : Fin 32) (b : Fin 4) (h : Fin 16) (r : Fin 64) :
    topA s (ix4 n b h r) = max (Ideal.ofBits FTy.f32 4286578688#32) (mx fun y => s (ix5 n b h r y)) := by
  have e := red_max reducesTo_S32x4x16x64x576_S32x4x16x64_d4 h_S_ s (constant (F := Ideal) S_ .f32 0xFF800000#32) (FloatOps.maximumf (F := Ideal) (φ := .f32)) rfl n b h r
  unfold topA
  rw [maximumf_apply]
  rw [e]
  rfl

theorem weight_at (s : FVec Ideal S32x4x16x64x576 .f32) (n : Fin 32) (b : Fin 4) (h : Fin 16) (r : Fin 64) (x : Fin 576) :
    weightA s (ix5 n b h r x) = Ideal.div (Ideal.exp (s (ix5 n b h r x) - topA s (ix4 n b h r)))
        (∑ z : Fin 576, Ideal.exp (s (ix5 n b h r z) - topA s (ix4 n b h r))) := by
  pointwise [weightA]

theorem mix_at (w : FVec Ideal S32x4x16x64x576 .f32) (v : FVec Ideal S32x4x16x576x128 .f32) (n : Fin 32) (b : Fin 4) (h : Fin 16) (r : Fin 64) (d : Fin 128) :
    mixA w v (ix5 n b h r d) = ∑ x : Fin 576, w (ix5 n b h r x) * v (ix5 n b h x d) := by
  pointwise [mixA]

theorem out_at (o : FVec Ideal S32x4x16x64x128 .f32) (T : Fin 8192) (L : Fin 2048) :
    outA o (ix2 T L) = o (ix5 ⟨T.val / 64 % 32, by omega⟩ ⟨T.val / 2048, by omega⟩ ⟨L.val / 128, by omega⟩ ⟨T.val % 64, by omega⟩ ⟨L.val % 128, by omega⟩) := by
  pointwise [outA]

theorem mixed_at (c : Dev nD) (n : Fin 32) (b : Fin 4) (h : Fin 16) (r : Fin 64) (d : Fin 128) :
    mixA (weightA (scoreA m c)) (Host.gather gather_S4x16x2560x128_S32x4_S32x4x16x576x128_1234_n_n_n_0123_1_416576128 (valA m c) (startA m c)) (ix5 n b h r d)
      = weighted (refS m c n b h r) (refV m c n b h d) := by
  rw [mix_at]
  unfold weighted
  refine Finset.sum_congr rfl fun x _ => ?_
  rw [weight_at, top_at, gather_band _ _ n b h x d (start_at m c n)]
  simp only [score_at]
  rfl

theorem res_at (c : Dev nD) (T : Fin 8192) (L : Fin 2048) :
    (res_main_v119 m c : FVec Ideal S8192x2048 .bf16) (ix2 T L)
      = weighted (refS m c ⟨T.val / 64 % 32, by omega⟩ ⟨T.val / 2048, by omega⟩ ⟨L.val / 128, by omega⟩ ⟨T.val % 64, by omega⟩)
          (refV m c ⟨T.val / 64 % 32, by omega⟩ ⟨T.val / 2048, by omega⟩ ⟨L.val / 128, by omega⟩ ⟨L.val % 128, by omega⟩) := by
  rw [res_eq]
  exact (out_at _ T L).trans (mixed_at m c _ _ _ _ _)

end Cert.ReferenceIdeal.Attn

end
-- ==== Proof.Same.lean ====
module

public import proofs.«01_k».proof.Defs
public import proofs.«01_k».proof.Proof.Value
public import proofs.«01_k».proof.Proof.Res
public import proofs.«01_k».proof.Proof.Gen.Pre_finite
public import Idealize.ShloMosaic.Lib.ReduceAll

@[expose] public section

set_option maxRecDepth 16384

noncomputable section

open Idealize.ShloMosaic Idealize.ShloMosaic.TcCoe Idealize.SL.Sem
open Cert.Attn

namespace Cert.Attn

/-! ## What the precondition says -/

theorem real_of_olt (x : EReal) (h : FloatOps.cmpf (F := Ideal) (φ := .f32) .olt (FloatOps.absf (F := Ideal) (φ := .f32) x) (Ideal.ofBits .f32 0x7F800000#32) = 1#1) : IsReal x := by
  induction x with
  | coe r => exact ⟨r, rfl⟩
  | bot => exact absurd h (by simp [FloatOps.cmpf, FloatOps.absf, Ideal.cmp, Ideal.ofBits, Ideal.ieee])
  | top => exact absurd h (by simp [FloatOps.cmpf, FloatOps.absf, Ideal.cmp, Ideal.ofBits, Ideal.ieee])

instance : Subsingleton (Cert.Pre_finite.S_).Idx := ⟨fun a b => funext fun i => i.elim0⟩

theorem finite_read (a0 : FVec Ideal Cert.Pre_finite.S8192x26624 .bf16) (a1 : FVec Ideal Cert.Pre_finite.S16x192 .f32) (a2 a3 : FVec Ideal Cert.Pre_finite.S128 .f32)
    (h : Cert.Pre_finite.fn (F := Ideal) a0 a1 a2 a3 = fun _ => 1#1) :
    (∀ i, IsReal (a1 i)) ∧ (∀ i, IsReal (a2 i)) ∧ (∀ i, IsReal (a3 i)) := by
  have h := congrFun h ix0
  unfold Cert.Pre_finite.fn at h
  obtain ⟨h12, h3⟩ := IntOp.andi_eq_one.1 h
  obtain ⟨h1, h2⟩ := IntOp.andi_eq_one.1 h12
  exact ⟨fun i => real_of_olt _ (Host.reduce_andi_all _ _ _ _ _ h1 i), fun i => real_of_olt _ (Host.reduce_andi_all _ _ _ _ _ h2 i),
    fun i => real_of_olt _ (Host.reduce_andi_all _ _ _ _ _ h3 i)⟩

/-! ## The two sides agree -/

theorem msk_val : ∀ (i : Fin 8) (k : Fin 768),
    IntOp.cmpi .sge (BitVec.ofNat 32 k.val) (Scalar.muli (Scalar.subi 2#32 (BitVec.ofNat 32 i.val)) 256#32)
      = BitVec.ofBool (decide (512 ≤ 256 * i.val + k.val)) := by
  decide +kernel

open Cert.KernelIdeal.Attn in
theorem msk_if (i : Fin 8) (k : Fin 768) (x : EReal) : msk (BitVec.ofNat 32 i.val) k x = if 512 ≤ 256 * i.val + k.val then x else ⊥ := by
  unfold msk
  rw [msk_val i k]
  by_cases h : 512 ≤ 256 * i.val + k.val
  · rw [if_pos h, decide_eq_true h]; rfl
  · rw [if_neg h, decide_eq_false h]; exact cbot

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

open Cert.KernelIdeal.Attn (kerS kerV krow tb litN litN_lt) in
theorem same (c : Dev Cert.KernelIdeal.nD)
    (hp : ∀ t l, Cert.ReferenceIdeal.Attn.pj m' c t l = Cert.KernelIdeal.Attn.pj m c t l)
    (hb : ∀ h i, Cert.ReferenceIdeal.Attn.rb m' c h i = Cert.KernelIdeal.Attn.rb m c h i)
    (hq : Cert.ReferenceIdeal.Attn.gq m' c = Cert.KernelIdeal.Attn.gq m c)
    (hk : Cert.ReferenceIdeal.Attn.gk m' c = Cert.KernelIdeal.Attn.gk m c)
    (fb : ∀ h i, IsReal (Cert.KernelIdeal.Attn.rb m c h i)) (fq : ∀ d, IsReal (Cert.KernelIdeal.Attn.gq m c d))
    (fk : ∀ d, IsReal (Cert.KernelIdeal.Attn.gk m c d)) (T : Fin 8192) (L : Fin 2048) :
    mixed (kerS m c T L) (kerV m c T L)
      = weighted (Cert.ReferenceIdeal.Attn.refS m' c ⟨T.val / 64 % 32, by omega⟩ ⟨T.val / 2048, by omega⟩ ⟨L.val / 128, by omega⟩ ⟨T.val % 64, by omega⟩)
          (Cert.ReferenceIdeal.Attn.refV m' c ⟨T.val / 64 % 32, by omega⟩ ⟨T.val / 2048, by omega⟩ ⟨L.val / 128, by omega⟩ ⟨L.val % 128, by omega⟩) := by
  have hreal : ∀ j : Fin 576, 512 ≤ 64 * (T.val / 64 % 32) + j.val →
      IsReal (Cert.ReferenceIdeal.Attn.refS m' c ⟨T.val / 64 % 32, by omega⟩ ⟨T.val / 2048, by omega⟩ ⟨L.val / 128, by omega⟩ ⟨T.val % 64, by omega⟩ j) := by
    intro j hw
    unfold Cert.ReferenceIdeal.Attn.refS
    rw [if_pos hw, hq, hk]
    exact sc_real _ _ _ (rn_real _ _ fq) (rn_real _ _ fk) (by rw [hb]; exact fb _ _)
  have hbot : ∀ j : Fin 576, ¬ 512 ≤ 64 * (T.val / 64 % 32) + j.val →
      Cert.ReferenceIdeal.Attn.refS m' c ⟨T.val / 64 % 32, by omega⟩ ⟨T.val / 2048, by omega⟩ ⟨L.val / 128, by omega⟩ ⟨T.val % 64, by omega⟩ j = ⊥ := by
    intro j hw
    unfold Cert.ReferenceIdeal.Attn.refS
    rw [if_neg hw]
  refine mixed_eq_weighted (fun j : Fin 576 => (⟨64 * (T.val / 64 % 4) + j.val, by omega⟩ : Fin 768)) ?_ _ _ _ _ ?_ ?_ ?_ ?_ ?_
  · intro a b h
    have := congrArg Fin.val h
    dsimp only at this
    exact Fin.ext (by omega)
  · intro j
    unfold kerS
    rw [msk_if ⟨T.val / 256 % 8, by omega⟩]
    dsimp only
    by_cases hw : 512 ≤ 64 * (T.val / 64 % 32) + j.val
    · rw [if_pos (by omega)]
      unfold Cert.ReferenceIdeal.Attn.refS
      rw [if_pos hw, hq, hk, hb]
      have e1 : tb m c ⟨L.val / 128, by omega⟩ ⟨T.val % 256, by omega⟩ ⟨64 * (T.val / 64 % 4) + j.val, by omega⟩
          = Cert.KernelIdeal.Attn.rb m c ⟨L.val / 128, by omega⟩ ⟨min (T.val % 64 + 575 - j.val) 191, by omega⟩ := by
        unfold tb
        rw [if_pos (by dsimp only; omega)]
        congr 1
        apply Fin.ext
        unfold litN
        dsimp only
        split <;> omega
      rw [e1]
      congr 1
      · congr 1
        funext x
        rw [hp]
        congr 1 <;> apply Fin.ext <;> dsimp only <;> omega
      · congr 1
        funext x
        rw [hp]
        unfold krow
        congr 1 <;> apply Fin.ext <;> dsimp only <;> omega
    · rw [if_neg (by omega)]
      exact hbot j hw
  · intro j hj
    have hw : 512 ≤ 64 * (T.val / 64 % 32) + j.val := by
      by_contra hw
      exact hj (hbot j hw)
    unfold Cert.ReferenceIdeal.Attn.refV kerV
    rw [Cert.ReferenceIdeal.Attn.val_at m' c _ _ _ hw, hp]
    unfold krow
    congr 1 <;> apply Fin.ext <;> dsimp only <;> omega
  · intro k hk'
    have hout : ¬ (T.val % 256 / 64 ≤ k.val / 64 ∧ k.val / 64 ≤ T.val % 256 / 64 + 8) := by
      intro hin
      exact hk' ⟨k.val - 64 * (T.val / 64 % 4), by omega⟩ (Fin.ext (by dsimp only; omega))
    unfold kerS
    rw [msk_if ⟨T.val / 256 % 8, by omega⟩]
    have e1 : tb m c ⟨L.val / 128, by omega⟩ ⟨T.val % 256, by omega⟩ k = ⊥ := by
      unfold tb
      rw [if_neg hout]
    rw [e1, sc_bot]
    split <;> rfl
  · intro j
    by_cases hw : 512 ≤ 64 * (T.val / 64 % 32) + j.val
    · exact (hreal j hw).ne_top
    · rw [hbot j hw]; exact bot_ne_top
  · exact ⟨⟨512, by omega⟩, (hreal ⟨512, by omega⟩ (by dsimp only; omega)).ne_bot⟩

end

end Cert.Attn

end
-- ==== Proof.Proj.lean ====
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel2Ideal.Proj

open Cert.Kernel2Ideal Cert.Kernel2Ideal.Gen

/-- The blocks of the rows, of the weights and of the result at each grid point. -/
theorem idx : ∀ t : Fin cfg0.N,
    win0_0.index t = ![t.val % 4, 0]
    ∧ win0_1.index t = ![0, 0, t.val / 4]
    ∧ win0_2.index t = ![t.val % 4, t.val / 4] :=
  (by decide +kernel : ∀ t : Fin grid0.N, _)

/-- The projection of the rows: an entry is the product of its row and its column of the weights. -/
def prod (a : FVec Ideal S8192x4096 .bf16) (w : FVec Ideal S1x4096x26624 .f32) (T : Fin 8192) (L : Fin 26624) : EReal :=
  ∑ k : Fin 4096, a (ix2 T k) * w (ix3 0 k L)

variable (m : (ℓ : Loc nD τ sig) → Buf (Elt Ideal) ℓ) (c : Dev nD) (t : Fin cfg0.N)

/-- The row of the array that row `r` of the output block of point `t` is. -/
def rowOf (r : Fin 2048) : Fin 8192 := ⟨2048 * (t.val % 4) + r.val, by omega⟩

/-- The lane of the array that lane `l` of the output block of point `t` is. -/
def laneOf (l : Fin 512) : Fin 26624 := ⟨512 * (t.val / 4) + l.val, by have h : t.val < 208 := t.isLt; omega⟩

theorem read_a (r : Fin 2048) (k : Fin 4096) : iblk m c 0 t (ix2 r k) = V m c main_arg0 (ix2 (rowOf t r) k) := by
  unfold rowOf
  blk_ext [iblk, idx t]

theorem read_w (k : Fin 4096) (l : Fin 512) : iblk m c 1 t (ix3 0 k l) = V m c main_arg1 (ix3 0 k (laneOf t l)) := by
  unfold laneOf
  blk_ext [iblk, idx t]

theorem out_at (x : Vec Ideal S2048x4096 .bf16) (w : Vec Ideal S1x4096x512 .f32) (r : Fin 2048) (l : Fin 512) :
    out0_2 x w (ix2 r l) = ∑ k : Fin 4096, x (ix2 r k) * w (ix3 0 k l) := by
  unfold out0_2
  frame_out
  pointwise [k0_pay1]

/-- The result array after the pipeline. -/
theorem arr : (dats m 0 c).arrAt 2 cfg0.N = fun y => prod (m ((c : Thread nD τ).loc main_arg0)) (m ((c : Thread nD τ).loc main_arg1)) (y 0) (y 1) := by
  refine (dats m 0 c).arrAt_eq_of_covers 2 _ (by decide +kernel) fun t _ y => ?_
  blk_simp
  rw [after0_2]
  idx_vars y
  refine (out_at _ _ _ _).trans ?_
  have h0 : rowOf t y0 = (win0_2.blk t).view.emb (ix2 y0 y1) 0 := by
    apply Fin.ext; unfold rowOf; blk_simp [idx t]; dsimp only; omega
  have h1 : laneOf t y1 = (win0_2.blk t).view.emb (ix2 y0 y1) 1 := by
    apply Fin.ext; unfold laneOf; blk_simp [idx t]; dsimp only; omega
  rw [← h0, ← h1]
  unfold prod
  simp only [read_a, read_w, V_main_arg0, V_main_arg1]

end Cert.Kernel2Ideal.Proj

namespace Cert.Reference2Ideal.Proj

open Cert.Reference2Ideal Cert.Reference2Ideal.Gen

theorem res_at (a : FVec Ideal S8192x4096 .bf16) (w : FVec Ideal S1x4096x26624 .f32) (T : Fin 8192) (L : Fin 26624) :
    (truncf .bf16 (Host.dotGeneral dot_S8192x4096_S4096x26624_S8192x26624_1_0_0_1_n_n none (extf .f32 a bitsLt_bf16_f32)
      (shapeCast _ w shapeCasts_S1x4096x26624_S4096x26624)) bitsLt_bf16_f32 : FVec Ideal S8192x26624 .bf16) (ix2 T L)
      = Cert.Kernel2Ideal.Proj.prod a w T L := by
  unfold Cert.Kernel2Ideal.Proj.prod
  pointwise

end Cert.Reference2Ideal.Proj

end
-- ==== Proof.Merge.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen

/-- The blocks of the two branches' rows and weights, of the two gates and of the result at each grid point. -/
theorem idx : ∀ t : Fin cfg0.N,
    win0_0.index t = ![t.val % 8, 0]
    ∧ win0_1.index t = ![t.val % 8, 0]
    ∧ win0_2.index t = ![0, 0, t.val / 8]
    ∧ win0_3.index t = ![0, 0, t.val / 8]
    ∧ win0_4.index t = ![t.val % 8, 36 + t.val / 8]
    ∧ win0_5.index t = ![t.val % 8, 44 + t.val / 8]
    ∧ win0_6.index t = ![t.val % 8, t.val / 8] :=
  (by decide +kernel : ∀ t : Fin grid0.N, _)

/-- The gate of a channel. -/
def gate (x : EReal) : EReal := Ideal.logistic x

/-- The two branches' projections, each under its gate. -/
def mrg (a : FVec Ideal S8192x4096 .bf16) (b : FVec Ideal S8192x2048 .bf16) (u : FVec Ideal S1x4096x4096 .f32) (v : FVec Ideal S1x2048x4096 .f32)
    (p : FVec Ideal S8192x26624 .bf16) (T : Fin 8192) (L : Fin 4096) : EReal :=
  gate (p (ix2 T ⟨18432 + L.val, by omega⟩)) * (∑ k : Fin 4096, a (ix2 T k) * u (ix3 0 k L))
    + gate (p (ix2 T ⟨22528 + L.val, by omega⟩)) * (∑ k : Fin 2048, b (ix2 T k) * v (ix3 0 k L))

variable (m : (ℓ : Loc nD τ sig) → Buf (Elt Ideal) ℓ) (c : Dev nD) (t : Fin cfg0.N)

/-- The row of the array that row `r` of the output block of point `t` is. -/
def rowOf (r : Fin 1024) : Fin 8192 := ⟨1024 * (t.val % 8) + r.val, by omega⟩

/-- The lane of the array that lane `l` of the output block of point `t` is. -/
def laneOf (l : Fin 512) : Fin 4096 := ⟨512 * (t.val / 8) + l.val, by have h : t.val < 64 := t.isLt; omega⟩

theorem read_a (r : Fin 1024) (k : Fin 4096) : iblk m c 0 t (ix2 r k) = V m c main_arg0 (ix2 (rowOf t r) k) := by
  unfold rowOf
  blk_ext [iblk, idx t]

theorem read_b (r : Fin 1024) (k : Fin 2048) : iblk m c 1 t (ix2 r k) = V m c main_arg1 (ix2 (rowOf t r) k) := by
  unfold rowOf
  blk_ext [iblk, idx t]

theorem read_u (k : Fin 4096) (l : Fin 512) : iblk m c 2 t (ix3 0 k l) = V m c main_arg2 (ix3 0 k (laneOf t l)) := by
  unfold laneOf
  blk_ext [iblk, idx t]

theorem read_v (k : Fin 2048) (l : Fin 512) : iblk m c 3 t (ix3 0 k l) = V m c main_arg3 (ix3 0 k (laneOf t l)) := by
  unfold laneOf
  blk_ext [iblk, idx t]

theorem read_gr (r : Fin 1024) (l : Fin 512) : iblk m c 4 t (ix2 r l) = V m c main_arg4 (ix2 (rowOf t r) ⟨18432 + (laneOf t l).val, by omega⟩) := by
  unfold rowOf laneOf
  blk_ext [iblk, idx t]

theorem read_ga (r : Fin 1024) (l : Fin 512) : iblk m c 5 t (ix2 r l) = V m c main_arg4 (ix2 (rowOf t r) ⟨22528 + (laneOf t l).val, by omega⟩) := by
  unfold rowOf laneOf
  blk_ext [iblk, idx t]

theorem out_at (a : Vec Ideal S1024x4096 .bf16) (b : Vec Ideal S1024x2048 .bf16) (u : Vec Ideal S1x4096x512 .f32) (v : Vec Ideal S1x2048x512 .f32)
    (p q : Vec Ideal S1024x512 .bf16) (r : Fin 1024) (l : Fin 512) :
    out0_6 a b u v p q (ix2 r l) = gate (p (ix2 r l)) * (∑ k : Fin 4096, a (ix2 r k) * u (ix3 0 k l))
      + gate (q (ix2 r l)) * (∑ k : Fin 2048, b (ix2 r k) * v (ix3 0 k l)) := by
  unfold out0_6
  frame_out
  pointwise [k0_pay1, gate]

/-- The result array after the pipeline. -/
theorem arr : (dats m 0 c).arrAt 6 cfg0.N = fun y => mrg (m ((c : Thread nD τ).loc main_arg0)) (m ((c : Thread nD τ).loc main_arg1))
    (m ((c : Thread nD τ).loc main_arg2)) (m ((c : Thread nD τ).loc main_arg3)) (m ((c : Thread nD τ).loc main_arg4)) (y 0) (y 1) := by
  refine (dats m 0 c).arrAt_eq_of_covers 6 _ (by decide +kernel) fun t _ y => ?_
  blk_simp
  rw [after0_6]
  idx_vars y
  refine (out_at _ _ _ _ _ _ _ _).trans ?_
  have h0 : rowOf t y0 = (win0_6.blk t).view.emb (ix2 y0 y1) 0 := by
    apply Fin.ext; unfold rowOf; blk_simp [idx t]; dsimp only; omega
  have h1 : laneOf t y1 = (win0_6.blk t).view.emb (ix2 y0 y1) 1 := by
    apply Fin.ext; unfold laneOf; blk_simp [idx t]; dsimp only; omega
  rw [← h0, ← h1]
  unfold mrg
  simp only [read_a, read_b, read_u, read_v, read_gr, read_ga, V_main_arg0, V_main_arg1, V_main_arg2, V_main_arg3, V_main_arg4]

end Cert.Kernel3Ideal.Merge

namespace Cert.Reference3Ideal.Merge

open Cert.Reference3Ideal Cert.Reference3Ideal.Gen

theorem res_at (a : FVec Ideal S8192x4096 .bf16) (b : FVec Ideal S8192x2048 .bf16) (u : FVec Ideal S1x4096x4096 .f32) (v : FVec Ideal S1x2048x4096 .f32)
    (p : FVec Ideal S8192x26624 .bf16) (T : Fin 8192) (L : Fin 4096) :
    (truncf .bf16 (addf (mulf (Host.divf (broadcastInDim S8192x4096 ![] bcast_S_S8192x4096 (constant S_ .f32 0x3F800000#32)) (addf (broadcastInDim S8192x4096 ![] bcast_S_S8192x4096 (constant S_ .f32 0x3F800000#32)) (Host.exp (Host.negf (extf .f32 (extractStridedSlice S8192x4096 ![0, 18432] p slices_S8192x26624_S8192x4096_0_18432) bitsLt_bf16_f32))))) (Host.dotGeneral dot_S8192x4096_S4096x4096_S8192x4096_1_0_0_1_n_n none (extf .f32 a bitsLt_bf16_f32) (shapeCast S4096x4096 u shapeCasts_S1x4096x4096_S4096x4096))) (mulf (Host.divf (broadcastInDim S8192x4096 ![] bcast_S_S8192x4096 (constant S_ .f32 0x3F800000#32)) (addf (broadcastInDim S8192x4096 ![] bcast_S_S8192x4096 (constant S_ .f32 0x3F800000#32)) (Host.exp (Host.negf (extf .f32 (extractStridedSlice S8192x4096 ![0, 22528] p slices_S8192x26624_S8192x4096_0_22528) bitsLt_bf16_f32))))) (Host.dotGeneral dot_S8192x2048_S2048x4096_S8192x4096_1_0_0_1_n_n none (extf .f32 b bitsLt_bf16_f32) (shapeCast S2048x4096 v shapeCasts_S1x2048x4096_S2048x4096)))) bitsLt_bf16_f32 : FVec Ideal S8192x4096 .bf16) (ix2 T L)
      = Cert.Kernel3Ideal.Merge.mrg a b u v p T L := by
  unfold Cert.Kernel3Ideal.Merge.mrg Cert.Kernel3Ideal.Merge.gate Ideal.logistic
  pointwise

end Cert.Reference3Ideal.Merge

end
-- ==== Proof.Outp.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel4Ideal.Outp

open Cert.Kernel4Ideal Cert.Kernel4Ideal.Gen

/-- The blocks of the rows, of the weights, of the residual, of the gate and of the result at each grid point. -/
theorem idx : ∀ t : Fin cfg0.N,
    win0_0.index t = ![t.val % 8, 0]
    ∧ win0_1.index t = ![0, 0, t.val / 8]
    ∧ win0_2.index t = ![t.val % 8, t.val / 8]
    ∧ win0_3.index t = ![t.val % 8 / 2 * 6 + 2, 0, t.val / 8]
    ∧ win0_4.index t = ![t.val % 8, t.val / 8] :=
  (by decide +kernel : ∀ t : Fin grid0.N, _)

/-- The residual row and the gated product of the row and the weights. -/
def outp (a : FVec Ideal S8192x4096 .bf16) (w : FVec Ideal S1x4096x4096 .f32) (x : FVec Ideal S8192x4096 .f32) (md : FVec Ideal S24x1x4096 .f32)
    (T : Fin 8192) (L : Fin 4096) : EReal :=
  x (ix2 T L) + md (ix3 ⟨T.val / 2048 * 6 + 2, by omega⟩ 0 L) * ∑ k : Fin 4096, a (ix2 T k) * w (ix3 0 k L)

variable (m : (ℓ : Loc nD τ sig) → Buf (Elt Ideal) ℓ) (c : Dev nD) (t : Fin cfg0.N)

/-- The row of the array that row `r` of the output block of point `t` is. -/
def rowOf (r : Fin 1024) : Fin 8192 := ⟨1024 * (t.val % 8) + r.val, by omega⟩

/-- The lane of the array that lane `l` of the output block of point `t` is. -/
def laneOf (l : Fin 512) : Fin 4096 := ⟨512 * (t.val / 8) + l.val, by have h : t.val < 64 := t.isLt; omega⟩

theorem read_a (r : Fin 1024) (k : Fin 4096) : iblk m c 0 t (ix2 r k) = V m c main_arg0 (ix2 (rowOf t r) k) := by
  unfold rowOf
  blk_ext [iblk, idx t]

theorem read_w (k : Fin 4096) (l : Fin 512) : iblk m c 1 t (ix3 0 k l) = V m c main_arg1 (ix3 0 k (laneOf t l)) := by
  unfold laneOf
  blk_ext [iblk, idx t]

theorem read_x (r : Fin 1024) (l : Fin 512) : iblk m c 2 t (ix2 r l) = V m c main_arg2 (ix2 (rowOf t r) (laneOf t l)) := by
  unfold rowOf laneOf
  blk_ext [iblk, idx t]

theorem read_g (r : Fin 1024) (l : Fin 512) :
    iblk m c 3 t (ix3 0 0 l) = V m c main_arg3 (ix3 ⟨(rowOf t r).val / 2048 * 6 + 2, by omega⟩ 0 (laneOf t l)) := by
  have h : (rowOf t r).val / 2048 = t.val % 8 / 2 := by unfold rowOf; dsimp only; omega
  simp only [h]
  unfold laneOf
  blk_ext [iblk, idx t]

theorem out_at (x : Vec Ideal S1024x4096 .bf16) (w : Vec Ideal S1x4096x512 .f32) (y : Vec Ideal S1024x512 .f32) (g : Vec Ideal S1x1x512 .f32) (r : Fin 1024) (l : Fin 512) :
    out0_4 x w y g (ix2 r l) = y (ix2 r l) + g (ix3 0 0 l) * ∑ k : Fin 4096, x (ix2 r k) * w (ix3 0 k l) := by
  unfold out0_4
  frame_out
  pointwise [k0_pay1]

/-- The result array after the pipeline. -/
theorem arr : (dats m 0 c).arrAt 4 cfg0.N = fun y => outp (m ((c : Thread nD τ).loc main_arg0)) (m ((c : Thread nD τ).loc main_arg1))
    (m ((c : Thread nD τ).loc main_arg2)) (m ((c : Thread nD τ).loc main_arg3)) (y 0) (y 1) := by
  refine (dats m 0 c).arrAt_eq_of_covers 4 _ (by decide +kernel) fun t _ y => ?_
  blk_simp
  rw [after0_4]
  idx_vars y
  refine (out_at _ _ _ _ _ _).trans ?_
  have h0 : rowOf t y0 = (win0_4.blk t).view.emb (ix2 y0 y1) 0 := by
    apply Fin.ext; unfold rowOf; blk_simp [idx t]; dsimp only; omega
  have h1 : laneOf t y1 = (win0_4.blk t).view.emb (ix2 y0 y1) 1 := by
    apply Fin.ext; unfold laneOf; blk_simp [idx t]; dsimp only; omega
  rw [← h0, ← h1]
  unfold outp
  simp only [read_a, read_w, read_x, read_g m c t y0, V_main_arg0, V_main_arg1, V_main_arg2, V_main_arg3]

end Cert.Kernel4Ideal.Outp

namespace Cert.Reference4Ideal.Outp

open Cert.Reference4Ideal Cert.Reference4Ideal.Gen

theorem res_at (a : FVec Ideal S8192x4096 .bf16) (w : FVec Ideal S1x4096x4096 .f32) (x : FVec Ideal S8192x4096 .f32) (md : FVec Ideal S24x1x4096 .f32)
    (T : Fin 8192) (L : Fin 4096) :
    (shapeCast S8192x4096 (addf (shapeCast S4x2048x4096 x shapeCasts_S8192x4096_S4x2048x4096) (mulf (broadcastInDim S4x2048x4096 ![0, 1, 2] bcast_S4x1x4096_S4x2048x4096_0_1_2 (shapeCast S4x1x4096 (extractStridedSlice S4x1x1x4096 ![0, 2, 0, 0] (broadcastInDim S4x6x1x4096 ![0, 1, 3] bcast_S4x6x4096_S4x6x1x4096_0_1_3 (shapeCast S4x6x4096 md shapeCasts_S24x1x4096_S4x6x4096)) slices_S4x6x1x4096_S4x1x1x4096_0_2_0_0) shapeCasts_S4x1x1x4096_S4x1x4096)) (Host.dotGeneral dot_S4x2048x4096_S4096x4096_S4x2048x4096_2_0_01_1_n_n none (shapeCast S4x2048x4096 (extf .f32 a bitsLt_bf16_f32) shapeCasts_S8192x4096_S4x2048x4096) (shapeCast S4096x4096 w shapeCasts_S1x4096x4096_S4096x4096)))) shapeCasts_S4x2048x4096_S8192x4096 : FVec Ideal S8192x4096 .f32) (ix2 T L)
      = Cert.Kernel4Ideal.Outp.outp a w x md T L := by
  unfold Cert.Kernel4Ideal.Outp.outp
  pointwise

end Cert.Reference4Ideal.Outp

end
-- ==== Proof.Ada.lean ====
module

public import proofs.«01_k».proof.Proof.Gen.Kernel5Ideal.Frame
public import proofs.«01_k».proof.Proof.Gen.Reference5Ideal.Run
public import Idealize.ShloMosaic.Lib.Pipeline.ValueKit
public import Idealize.ShloMosaic.Lib.Pointwise
public import Idealize.ShloMosaic.Lib.Tactic
public import Idealize.ShloMosaic.Lib.Routing.OpsOne
public import Idealize.ShloMosaic.Lib.StableHlo.Run
public import Idealize.ShloMosaic.Lib.StableHlo.ReadAt
public import Idealize.ShloMosaic.Lib.StableHlo.RunRead

@[expose] public section

set_option maxRecDepth 16384

noncomputable section

open Idealize.ShloMosaic Idealize.ShloMosaic.TcCoe Idealize.ShloMosaic.Tactic Idealize.SL.Sem
open Idealize.ShloMosaic.Pipeline (Dat)

namespace Cert.Kernel5Ideal.Ada

open Cert.Kernel5Ideal Cert.Kernel5Ideal.Gen

/-- The blocks of the conditioning rows, of the weights, of the bias and of the result at each grid point. -/
theorem idx : ∀ t : Fin cfg0.N,
    win0_0.index t = ![0, 0]
    ∧ win0_1.index t = ![0, 0, t.val]
    ∧ win0_2.index t = ![0, 0, t.val]
    ∧ win0_3.index t = ![0, t.val] :=
  (by decide +kernel : ∀ t : Fin grid0.N, _)

/-- The gate of a value. -/
def gate (x : EReal) : EReal := Ideal.logistic x

/-- A lane of a row's modulation. -/
def lane {R : Nat} (x : (⟨2, ![R, 4096]⟩ : Shape).Idx → EReal) (w : FVec Ideal S1x4096x24576 .f32) (b : FVec Ideal S1x24576 .f32) (r : Fin R) (l : Fin 24576) : EReal :=
  (∑ k : Fin 4096, x (ix2 r k) * gate (x (ix2 r k)) * w (ix3 0 k l)) + b (ix2 0 l)

theorem lane_congr {R S : Nat} (x : (⟨2, ![R, 4096]⟩ : Shape).Idx → EReal) (y : (⟨2, ![S, 4096]⟩ : Shape).Idx → EReal) (w : FVec Ideal S1x4096x24576 .f32)
    (b : FVec Ideal S1x24576 .f32) (r : Fin R) (q : Fin S) (l : Fin 24576) (h : ∀ k, x (ix2 r k) = y (ix2 q k)) : lane x w b r l = lane y w b q l := by
  unfold lane
  simp only [h]

/-- The modulation by sequence and part. -/
def ada (x : FVec Ideal S4x4096 .f32) (w : FVec Ideal S1x4096x24576 .f32) (b : FVec Ideal S1x24576 .f32) (p : Fin 24) (L : Fin 4096) : EReal :=
  lane (R := 4) x w b ⟨p.val / 6, by omega⟩ ⟨p.val % 6 * 4096 + L.val, by omega⟩

variable (m : (ℓ : Loc nD τ sig) → Buf (Elt Ideal) ℓ) (ρ : Dev nD → PrngReg) (c : Dev nD) (t : Fin cfg0.N)

/-- Update `(a, b)` of rows written from row zero lands at `(a, b)`. -/
theorem lands (d : ScatterDims S8x4096 S1 S4x4096) (huw : d.updateWindowDims = [0, 1]) (hiw : d.insertedWindowDims = []) (hsd : d.scatterDimsToOperandDims = [0])
    (i : IVec S1 32) (hi : ∀ q, (i q).toInt = 0) (a : Fin 4) (b : Fin 4096) (r : Fin 8) (l : Fin 4096) :
    d.resultIdx? (ix2 a b) i = some (ix2 r l) ↔ a.val = r.val ∧ b = l := by
  have hk : d.sKept = [0, 1] := by
    show S8x4096.kept d.insertedWindowDims = _
    rw [hiw]
    rfl
  have hwin0 : d.window (ix2 a b) 0 = a.val := by
    unfold ScatterDims.window
    rw [dif_pos (by rw [hk]; simp)]
    have e : d.updateWindowDims[d.sKept.idxOf 0]'(by rw [hk, huw]; decide) = 0 := by simp only [hk, huw]; rfl
    exact congrArg (fun q => ((ix2 a b : S4x4096.Idx) q).val) e
  have hwin1 : d.window (ix2 a b) 1 = b.val := by
    unfold ScatterDims.window
    rw [dif_pos (by rw [hk]; simp)]
    have e : d.updateWindowDims[d.sKept.idxOf 1]'(by rw [hk, huw]; decide) = 1 := by simp only [hk, huw]; rfl
    exact congrArg (fun q => ((ix2 a b : S4x4096.Idx) q).val) e
  have hs0 : d.start (ix2 a b) i 0 = 0 := by
    unfold ScatterDims.start
    split
    · exact hi _
    · rfl
  have hs1 : d.start (ix2 a b) i 1 = 0 := by
    unfold ScatterDims.start
    split
    · exact hi _
    · rfl
  refine (Routing.resultIdx?_ix2 d (ix2 a b) i r l).trans ?_
  rw [hs0, hs1, hwin0, hwin1, Fin.ext_iff]
  omega

theorem scatter_rows (d : ScatterDims S8x4096 S1 S4x4096) (huw : d.updateWindowDims = [0, 1]) (hiw : d.insertedWindowDims = []) (hsd : d.scatterDimsToOperandDims = [0])
    (i : IVec S1 32) (hi : ∀ q, (i q).toInt = 0) (z : FVec Ideal S8x4096 .f32) (u : FVec Ideal S4x4096 .f32) (r : Fin 4) (l : Fin 4096) :
    Host.scatter d (fun _ b => b) z i u (ix2 ⟨r.val, by omega⟩ l) = u (ix2 r l) := by
  refine Routing.scatter_set_hit d z i u _ _ (fun j hj => ?_) (ix2 r l) ((lands d huw hiw hsd i hi r l _ l).2 ⟨rfl, rfl⟩)
  have q := (lands d huw hiw hsd i hi (j 0) (j 1) _ l).1 ((congrArg (fun s => d.resultIdx? s i) (eq_ix2 j).symm).trans hj)
  rw [eq_ix2 j, q.2, Fin.ext (a := j 0) (b := r) q.1]

theorem V_x (r : Fin 4) (k : Fin 4096) :
    (V m c main_v2 : FVec Ideal S8x4096 .f32) (ix2 ⟨r.val, by omega⟩ k) = (m ((c : Thread nD τ).loc main_arg0) : FVec Ideal S4x4096 .f32) (ix2 r k) := by
  have e : StableHlo.after hostOps0 (fun b => m (c, b)) (Proc.devRef .tc main_v2)
      = Host.scatter scatter_S8x4096_S1_S4x4096_01_n_0_0 (fun _ b => b) (broadcastInDim S8x4096 ![] bcast_S_S8x4096 (constant (F := Ideal) S_ .f32 0x00000000#32))
        (broadcastInDim S1 ![] bcast_S_S1 (constantI S_ 32 0#32)) (m ((c : Thread nD τ).loc main_arg0)) := by
    simp only [hostOps0, StableHlo.TRef.binary, StableHlo.TRef.nullary, StableHlo.TRef.unary, StableHlo.TRef.toBuf, StableHlo.TRef.ofBuf, cast_eq]; after_results <;> rfl
  refine (congrFun e _).trans ?_
  exact scatter_rows _ rfl rfl rfl _ (fun _ => rfl) _ _ r k

theorem V_b (l : Fin 24576) : (V m c main_v3 : FVec Ideal S1x1x24576 .f32) (ix3 0 0 l) = (m ((c : Thread nD τ).loc main_arg2) : FVec Ideal S1x24576 .f32) (ix2 0 l) := by
  show StableHlo.after hostOps0 (fun b => m (c, b)) (Proc.devRef .tc main_v3) (ix3 0 0 l) = _
  have e : StableHlo.after hostOps0 (fun b => m (c, b)) (Proc.devRef .tc main_v3)
      = shapeCast S1x1x24576 (m ((c : Thread nD τ).loc main_arg2)) shapeCasts_S1x24576_S1x1x24576 := by
    simp only [hostOps0, StableHlo.TRef.binary, StableHlo.TRef.nullary, StableHlo.TRef.unary, StableHlo.TRef.toBuf, StableHlo.TRef.ofBuf, cast_eq]; after_results <;> rfl
  refine (congrFun e _).trans ?_
  exact shapeCast_apply _ _ (ix3 0 0 l) (ix2 0 l) (by rw [Shape.rowMajor_val_two, Shape.rowMajor_val_three]; show 0 * 24576 + l.val = (0 * 1 + 0) * 24576 + l.val; omega)

/-- The lane of the array that lane `l` of the output block of point `t` is. -/
def laneOf (l : Fin 1024) : Fin 24576 := ⟨1024 * t.val + l.val, by have h : t.val < 24 := t.isLt; omega⟩

theorem read_x' (x : FVec Ideal S8x4096 .f32) (r : Fin 8) (k : Fin 4096) : (win0_0.blk t).view.read (Elt Ideal) x (ix2 r k) = x (ix2 r k) := by
  blk_ext [idx t]

theorem read_x (r : Fin 8) (k : Fin 4096) : iblk m c 0 t (ix2 r k) = V m c main_v2 (ix2 r k) := read_x' t (V m c main_v2) r k

theorem read_w (k : Fin 4096) (l : Fin 1024) : iblk m c 1 t (ix3 0 k l) = V m c main_arg1 (ix3 0 k (laneOf t l)) := by
  unfold laneOf
  blk_ext [iblk, idx t]

theorem read_b (l : Fin 1024) : iblk m c 2 t (ix3 0 0 l) = V m c main_v3 (ix3 0 0 (laneOf t l)) := by
  unfold laneOf
  blk_ext [iblk, idx t]

theorem out_at (x : Vec Ideal S8x4096 .f32) (w : Vec Ideal S1x4096x1024 .f32) (b : Vec Ideal S1x1x1024 .f32) (r : Fin 8) (l : Fin 1024) :
    out0_3 x w b (ix2 r l) = (∑ k : Fin 4096, x (ix2 r k) * gate (x (ix2 r k)) * w (ix3 0 k l)) + b (ix3 0 0 l) := by
  unfold out0_3
  frame_out
  pointwise [k0_pay1, gate]

/-- The result array after the pipeline, over the padded rows. -/
theorem arr : (dats m 0 c).arrAt 3 cfg0.N = fun y => lane (R := 8) (V m c main_v2) (m ((c : Thread nD τ).loc main_arg1))
    (m ((c : Thread nD τ).loc main_arg2)) (y 0) (y 1) := by
  refine (dats m 0 c).arrAt_eq_of_covers 3 _ (by decide +kernel) fun t _ y => ?_
  blk_simp
  rw [after0_3]
  idx_vars y
  refine (out_at _ _ _ _ _).trans ?_
  have h0 : y0 = (win0_3.blk t).view.emb (ix2 y0 y1) 0 := by
    apply Fin.ext; blk_simp [idx t]
  have h1 : laneOf t y1 = (win0_3.blk t).view.emb (ix2 y0 y1) 1 := by
    apply Fin.ext; unfold laneOf; blk_simp [idx t]; dsimp only; omega
  rw [← h0, ← h1]
  unfold lane
  have e1 : ∀ b, V m c main_arg1 b = m ((c : Thread nD τ).loc main_arg1) b := congrFun (V_main_arg1 m c)
  simp only [read_x, read_w, read_b, e1]
  rw [V_b]

/-- Every run ends with the result array at what the operations behind the pipeline leave in it, the arguments as launched. -/
theorem run : θ_run defs (onTc (τ := τ) (main (F := Ideal))) ⟨m, fun _ => 0, ρ⟩ (fun r => ∀ c : Dev nD,
      r.2.mem ((c.tc : Thread nD τ).loc main_v6) = Pipeline.afterTail₀ cfgs (dats m) 0 (V0 m) [hostOps1] c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2 main_v6 (Pipeline.mem_restRefs_of main_v6 (by decide) (by decide)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c))⟩) (run_main m ρ)

/-- The result. -/
theorem res (p : Fin 24) (L : Fin 4096) : (Pipeline.afterTail₀ cfgs (dats m) 0 (V0 m) [hostOps1] c main_v6 : FVec Ideal S24x1x4096 .f32) (ix3 p 0 L)
    = ada (m ((c : Thread nD τ).loc main_arg0)) (m ((c : Thread nD τ).loc main_arg1)) (m ((c : Thread nD τ).loc main_arg2)) p L := by
  have e : ∀ b, Pipeline.withArrays (cfgs 0).spec c (V0 m c) (fun w => (dats m 0 c).arrAt w (cfgs 0).N) (Proc.devRef .tc main_v4) b
      = (dats m 0 c).arrAt 3 cfg0.N b := congrFun (Pipeline.withArrays_arr _ launch0.win.arr_inj c _ _ 3)
  unfold Pipeline.afterTail₀
  show StableHlo.after hostOps1 _ (Proc.devRef .tc main_v6) (ix3 p 0 L) = _
  after_reads_at
  refine (e _).trans ?_
  refine (congrFun (arr m c) _).trans ?_
  exact lane_congr _ _ _ _ _ _ _ fun k => V_x m c ⟨p.val / 6, by omega⟩ k

end Cert.Kernel5Ideal.Ada

namespace Cert.Reference5Ideal.Ada

open Cert.Reference5Ideal Cert.Reference5Ideal.Gen

theorem res_at (x : FVec Ideal S4x4096 .f32) (w : FVec Ideal S1x4096x24576 .f32) (b : FVec Ideal S1x24576 .f32) (p : Fin 24) (L : Fin 4096) :
    (shapeCast S24x1x4096 (shapeCast S4x6x4096 (addf (Host.dotGeneral dot_S4x4096_S4096x24576_S4x24576_1_0_0_1_n_n none (mulf x (Host.divf (broadcastInDim S4x4096 ![] bcast_S_S4x4096 (constant S_ .f32 0x3F800000#32)) (addf (broadcastInDim S4x4096 ![] bcast_S_S4x4096 (constant S_ .f32 0x3F800000#32)) (Host.exp (Host.negf x))))) (shapeCast S4096x24576 w shapeCasts_S1x4096x24576_S4096x24576)) (broadcastInDim S4x24576 ![0, 1] bcast_S1x24576_S4x24576_0_1 (broadcastInDim S1x24576 ![1] bcast_S24576_S1x24576_1 (shapeCast S24576 b shapeCasts_S1x24576_S24576)))) shapeCasts_S4x24576_S4x6x4096) shapeCasts_S4x6x4096_S24x1x4096 : FVec Ideal S24x1x4096 .f32) (ix3 p 0 L)
      = Cert.Kernel5Ideal.Ada.ada x w b p L := by
  unfold Cert.Kernel5Ideal.Ada.ada Cert.Kernel5Ideal.Ada.lane Cert.Kernel5Ideal.Ada.gate Ideal.logistic
  pointwise

end Cert.Reference5Ideal.Ada

end
-- ==== Proof.Norm.lean ====
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Tactic
public import Idealize.ShloMosaic.Lib.StableHlo.ReadAt
public import Idealize.ShloMosaic.Lib.StableHlo.RunRead

@[expose] public section

set_option maxRecDepth 16384

noncomputable section

open Idealize.ShloMosaic Idealize.ShloMosaic.TcCoe Idealize.ShloMosaic.Tactic Idealize.SL.Sem
open Idealize.ShloMosaic.Pipeline (Dat)

namespace Cert.Kernel6Ideal.Norm

open Cert.Kernel6Ideal Cert.Kernel6Ideal.Gen

/-- The blocks of the rows, of the weight, of the scale, of the shift and of the result at each grid point. -/
theorem idx : ∀ t : Fin cfg0.N,
    win0_0.index t = ![t.val, 0]
    ∧ win0_1.index t = ![0, 0, 0]
    ∧ win0_2.index t = ![t.val / 4 * 6 + 1, 0, 0]
    ∧ win0_3.index t = ![t.val / 4 * 6, 0, 0]
    ∧ win0_4.index t = ![t.val, 0] :=
  (by decide +kernel : ∀ t : Fin grid0.N, _)

/-- A channel of the normed row, weighted, scaled and shifted. -/
def nrm (x : FVec Ideal S8192x4096 .f32) (g : FVec Ideal S1x4096 .f32) (md : FVec Ideal S24x1x4096 .f32) (T : Fin 8192) (L : Fin 4096) : EReal :=
  x (ix2 T L)
      * Ideal.rsqrt (Ideal.div (∑ k : Fin 4096, x (ix2 T k) * x (ix2 T k)) (Ideal.ofBits .f32 0x45800000#32) + Ideal.ofBits .f32 0x358637BD#32)
      * g (ix2 0 L)
      * (1 + md (ix3 ⟨T.val / 2048 * 6 + 1, by omega⟩ 0 L))
    + md (ix3 ⟨T.val / 2048 * 6, by omega⟩ 0 L)

variable (m : (ℓ : Loc nD τ sig) → Buf (Elt Ideal) ℓ) (c : Dev nD) (t : Fin cfg0.N)

/-- The row of the array that row `r` of the output block of point `t` is. -/
def rowOf (r : Fin 512) : Fin 8192 := ⟨512 * t.val + r.val, by have h : t.val < 16 := t.isLt; omega⟩

theorem V_g (L : Fin 4096) : (V m c main_v0 : FVec Ideal S1x1x4096 .f32) (ix3 0 0 L) = (m ((c : Thread nD τ).loc main_arg1) : FVec Ideal S1x4096 .f32) (ix2 0 L) := by
  show StableHlo.after hostOps0 (fun b => m (c, b)) (Proc.devRef .tc main_v0) (ix3 0 0 L) = _
  after_reads_at

theorem read_x (r : Fin 512) (k : Fin 4096) : iblk m c 0 t (ix2 r k) = V m c main_arg0 (ix2 (rowOf t r) k) := by
  unfold rowOf
  blk_ext [iblk, idx t]

theorem read_g (l : Fin 4096) : iblk m c 1 t (ix3 0 0 l) = V m c main_v0 (ix3 0 0 l) := by
  blk_ext [iblk, idx t]

theorem read_sc (r : Fin 512) (l : Fin 4096) :
    iblk m c 2 t (ix3 0 0 l) = V m c main_arg2 (ix3 ⟨(rowOf t r).val / 2048 * 6 + 1, by omega⟩ 0 l) := by
  have h : (rowOf t r).val / 2048 = t.val / 4 := by unfold rowOf; dsimp only; omega
  simp only [h]
  blk_ext [iblk, idx t]

theorem read_sh (r : Fin 512) (l : Fin 4096) :
    iblk m c 3 t (ix3 0 0 l) = V m c main_arg2 (ix3 ⟨(rowOf t r).val / 2048 * 6, by omega⟩ 0 l) := by
  have h : (rowOf t r).val / 2048 = t.val / 4 := by unfold rowOf; dsimp only; omega
  simp only [h]
  blk_ext [iblk, idx t]

theorem out_at (x : Vec Ideal S512x4096 .f32) (g a b : Vec Ideal S1x1x4096 .f32) (r : Fin 512) (l : Fin 4096) :
    out0_4 x g a b (ix2 r l) = x (ix2 r l)
      * Ideal.rsqrt (Ideal.div (∑ k : Fin 4096, x (ix2 r k) * x (ix2 r k)) (Ideal.ofBits .f32 0x45800000#32) + Ideal.ofBits .f32 0x358637BD#32)
      * g (ix3 0 0 l) * (1 + a (ix3 0 0 l)) + b (ix3 0 0 l) := by
  unfold out0_4
  frame_out
  pointwise [k0_pay1]

/-- The result array after the pipeline. -/
theorem arr : (dats m 0 c).arrAt 4 cfg0.N = fun y => nrm (m ((c : Thread nD τ).loc main_arg0)) (m ((c : Thread nD τ).loc main_arg1))
    (m ((c : Thread nD τ).loc main_arg2)) (y 0) (y 1) := by
  refine (dats m 0 c).arrAt_eq_of_covers 4 _ (by decide +kernel) fun t _ y => ?_
  blk_simp
  rw [after0_4]
  idx_vars y
  refine (out_at _ _ _ _ _ _).trans ?_
  have h0 : rowOf t y0 = (win0_4.blk t).view.emb (ix2 y0 y1) 0 := by
    apply Fin.ext; unfold rowOf; blk_simp [idx t]; dsimp only; omega
  have h1 : y1 = (win0_4.blk t).view.emb (ix2 y0 y1) 1 := by
    apply Fin.ext; blk_simp [idx t]
  rw [← h0, ← h1]
  unfold nrm
  have e0 : ∀ b, V m c main_arg0 b = m ((c : Thread nD τ).loc main_arg0) b := congrFun (V_main_arg0 m c)
  have e2 : ∀ b, V m c main_arg2 b = m ((c : Thread nD τ).loc main_arg2) b := congrFun (V_main_arg2 m c)
  simp only [read_x, read_g, read_sc m c t y0, read_sh m c t y0, e0, e2]
  rw [V_g]

end Cert.Kernel6Ideal.Norm

namespace Cert.Reference6Ideal.Norm

open Cert.Reference6Ideal Cert.Reference6Ideal.Gen

theorem res_at (x : FVec Ideal S8192x4096 .f32) (g : FVec Ideal S1x4096 .f32) (md : FVec Ideal S24x1x4096 .f32) (T : Fin 8192) (L : Fin 4096) :
    (truncf .bf16 (shapeCast S8192x4096 (addf (mulf (mulf (mulf (shapeCast S4x2048x4096 x shapeCasts_S8192x4096_S4x2048x4096) (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf (shapeCast S4x2048x4096 x shapeCasts_S8192x4096_S4x2048x4096) (shapeCast S4x2048x4096 x shapeCasts_S8192x4096_S4x2048x4096)) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 (shapeCast S4096 g shapeCasts_S1x4096_S4096)))) (broadcastInDim S4x2048x4096 ![0, 1, 2] bcast_S4x1x4096_S4x2048x4096_0_1_2 (addf (broadcastInDim S4x1x4096 ![] bcast_S_S4x1x4096 (constant S_ .f32 0x3F800000#32)) (shapeCast S4x1x4096 (extractStridedSlice S4x1x1x4096 ![0, 1, 0, 0] (broadcastInDim S4x6x1x4096 ![0, 1, 3] bcast_S4x6x4096_S4x6x1x4096_0_1_3 (shapeCast S4x6x4096 md shapeCasts_S24x1x4096_S4x6x4096)) slices_S4x6x1x4096_S4x1x1x4096_0_1_0_0) shapeCasts_S4x1x1x4096_S4x1x4096)))) (broadcastInDim S4x2048x4096 ![0, 1, 2] bcast_S4x1x4096_S4x2048x4096_0_1_2 (shapeCast S4x1x4096 (extractStridedSlice S4x1x1x4096 ![0, 0, 0, 0] (broadcastInDim S4x6x1x4096 ![0, 1, 3] bcast_S4x6x4096_S4x6x1x4096_0_1_3 (shapeCast S4x6x4096 md shapeCasts_S24x1x4096_S4x6x4096)) slices_S4x6x1x4096_S4x1x1x4096_0_0_0_0) shapeCasts_S4x1x1x4096_S4x1x4096))) shapeCasts_S4x2048x4096_S8192x4096) bitsLt_bf16_f32 : FVec Ideal S8192x4096 .bf16) (ix2 T L)
      = Cert.Kernel6Ideal.Norm.nrm x g md T L := by
  unfold Cert.Kernel6Ideal.Norm.nrm
  pointwise

end Cert.Reference6Ideal.Norm

end
-- ==== Proof.RetHead.lean ====
module

public import proofs.«01_k».proof.Proof.Gen.Kernel7Ideal.Frame
public import Idealize.ShloMosaic.Lib.Pipeline.ValueKit
public import Idealize.ShloMosaic.Lib.Pipeline.CanonAppend
public import Idealize.ShloMosaic.Lib.WholeRead
public import Idealize.ShloMosaic.Lib.Pointwise

@[expose] public section

set_option maxRecDepth 16384

noncomputable section

open Idealize.ShloMosaic Idealize.ShloMosaic.TcCoe Idealize.SL.Sem

namespace Cert.Kernel7Ideal.Ret

open Cert.Kernel7Ideal Cert.Kernel7Ideal.Gen

/-! ## The parts of the blocks that head `k` takes -/

/-- Its columns of the queries and keys. -/
def rq (k : Fin 8) : Rect S256x2048 := Rect.unit ![0, 256 * k.val] S256x256.size
  (Fin.forall_fin_two.mpr ⟨by show (256 : ℕ) ≤ 256; omega, by have := k.isLt; show 256 * k.val + 256 ≤ 2048; omega⟩)

/-- Its columns of the values, the gates and the output. -/
def rv (k : Fin 8) : Rect S256x4096 := Rect.unit ![0, 512 * k.val] S256x512.size
  (Fin.forall_fin_two.mpr ⟨by show (256 : ℕ) ≤ 256; omega, by have := k.isLt; show 512 * k.val + 512 ≤ 4096; omega⟩)

/-- The angles, which all heads share. -/
def rc : Rect S256x128 := Rect.unit ![0, 0] S256x128.size inb_S256x128_S256x128_0_0

/-- Its table of the decays. -/
def rt (k : Fin 8) : Rect S8x256x256 := Rect.unit ![k.val, 0, 0] S1x256x256.size
  (Fin.forall_fin_succ.mpr ⟨by have := k.isLt; show k.val + 1 ≤ 8; omega, Fin.forall_fin_two.mpr ⟨by show 0 + 256 ≤ 256; omega, by show 0 + 256 ≤ 256; omega⟩⟩)

/-- Its state. -/
def rs (k : Fin 8) : Rect S8x256x512 := Rect.unit ![k.val, 0, 0] S1x256x512.size
  (Fin.forall_fin_succ.mpr ⟨by have := k.isLt; show k.val + 1 ≤ 8; omega, Fin.forall_fin_two.mpr ⟨by show 0 + 256 ≤ 256; omega, by show 0 + 512 ≤ 512; omega⟩⟩)

/-- The decay of its state over a block. -/
def rd (k : Fin 8) : Rect S8x1x512 := Rect.unit ![k.val, 0, 0] S1x1x512.size
  (Fin.forall_fin_succ.mpr ⟨by have := k.isLt; show k.val + 1 ≤ 8; omega, Fin.forall_fin_two.mpr ⟨by show 0 + 1 ≤ 1; omega, by show 0 + 512 ≤ 512; omega⟩⟩)

section Any
variable {F : FTy → Type} [FloatOps F]

/-- Rows turned by their angles. -/
def turn (cs sn : FVec F S256x128 .f32) (x : FVec F S256x256 .bf16) : FVec F S256x256 .f32 :=
  have e : FVec F S256x256 .f32 := extf .f32 x bitsLt_bf16_f32
  have a : FVec F S256x128 .f32 := extractStridedSlice S256x128 ![0, 0] e slices_S256x256_o0_0_S256x128
  have b : FVec F S256x128 .f32 := extractStridedSlice S256x128 ![0, 128] e slices_S256x256_o0_128_S256x128
  have c : FVec F S256x128 .f32 := shapeCast S256x128 cs shapeCasts_S256x128_S256x128
  have s : FVec F S256x128 .f32 := shapeCast S256x128 sn shapeCasts_S256x128_S256x128
  concatenate S256x256 1 [⟨S256x128, subf (mulf a c) (mulf b s)⟩, ⟨S256x128, addf (mulf a s) (mulf b c)⟩] concatenates_S256x128_S256x128_S256x256_d1

/-- The key rows: turned and scaled. -/
def keys (cs sn : FVec F S256x128 .f32) (x : FVec F S256x256 .bf16) : FVec F S256x256 .f32 :=
  mulf (turn cs sn x) (broadcast S256x256 (Scalar.ofBits .f32 0x3D800000#32 : F .f32))

/-- What a head leaves in its state. -/
def headSt (k : FVec F S256x256 .f32) (v : FVec F S256x512 .bf16) (s : FVec F S1x256x512 .f32) (cd : FVec F S1x1x512 .f32) (kd : FVec F S1x256x256 .f32) : FVec F S1x256x512 .f32 :=
  shapeCast S1x256x512 (addf (mulf (shapeCast S256x512 s shapeCasts_S1x256x512_S256x512) (broadcastTo S256x512 (shapeCast S1x512 cd shapeCasts_S1x1x512_S1x512) broadcasts_S1x512_S256x512))
    (matmul dot_S256x256_S256x512_S256x512_0_0_1_1_n_n none (truncf .bf16 (mulf k (shapeCast S256x256 kd shapeCasts_S1x256x256_S256x256)) bitsLt_bf16_f32) v (constant S256x512 .f32 0x00000000#32))) shapeCasts_S256x512_S1x256x512

/-- The mixed values of a head: from inside the block and from the state. -/
def headMix (q k : FVec F S256x256 .f32) (v : FVec F S256x512 .bf16) (s : FVec F S1x256x512 .f32) (dec qd : FVec F S1x256x256 .f32) : FVec F S256x512 .f32 :=
  addf
    (matmul dot_S256x256_S256x512_S256x512_1_0_0_1_n_n none (truncf .bf16 (mulf (matmul dot_S256x256_S256x256_S256x256_1_1_0_0_n_n none (truncf .bf16 q bitsLt_bf16_f32) (truncf .bf16 k bitsLt_bf16_f32) (constant S256x256 .f32 0x00000000#32)) (shapeCast S256x256 dec shapeCasts_S1x256x256_S256x256)) bitsLt_bf16_f32) v (constant S256x512 .f32 0x00000000#32))
    (matmul dot_S256x256_S256x512_S256x512_1_0_0_1_n_n none (truncf .bf16 (mulf q (shapeCast S256x256 qd shapeCasts_S1x256x256_S256x256)) bitsLt_bf16_f32) (truncf .bf16 (shapeCast S256x512 s shapeCasts_S1x256x512_S256x512) bitsLt_bf16_f32) (constant S256x512 .f32 0x00000000#32))

/-- A head's output: the mixed values, rms-normalised and gated. -/
def headOut (o : FVec F S256x512 .f32) (g : FVec F S256x512 .bf16) : FVec F S256x512 .bf16 :=
  have e : FVec F S256x512 .f32 := extf .f32 g bitsLt_bf16_f32
  truncf .bf16 (mulf (mulf e (logistic e)) (mulf o (broadcastTo S256x512 (rsqrt (addf (divf (shapeCast S256x1 (multiReduction .add [1] S256 (mulf o o) 0x00000000#32 reduces_S256x512_S256 (.inl rfl) rfl) shapeCasts_S256_S256x1)
    (broadcast S256x1 (Scalar.ofBits .f32 0x44000000#32 : F .f32))) (broadcast S256x1 (Scalar.ofBits .f32 0x358637BD#32 : F .f32)))) broadcasts_S256x1_S256x512))) bitsLt_bf16_f32

/-- Head `k`'s piece of the state, from the blocks and the state before. -/
def stPiece (x1 : Vec F S256x2048 .bf16) (x2 : Vec F S256x4096 .bf16) (x4 x5 : Vec F S256x128 .f32) (x8 : Vec F S8x256x256 .f32) (x9 : Vec F S8x1x512 .f32) (s : Vec F S8x256x512 .f32) (k : Fin 8) : View.Piece (Elt F) S8x256x512 .f32 :=
  ⟨rs k, headSt (keys (View.ld x4 rc) (View.ld x5 rc) (View.ld x1 (rq k))) (View.ld x2 (rv k)) (View.ld s (rs k)) (View.ld x9 (rd k)) (View.ld x8 (rt k))⟩

/-- Head `k`'s piece of the output. -/
def outPiece (x0 x1 : Vec F S256x2048 .bf16) (x2 x3 : Vec F S256x4096 .bf16) (x4 x5 : Vec F S256x128 .f32) (x6 x7 : Vec F S8x256x256 .f32) (s : Vec F S8x256x512 .f32) (k : Fin 8) : View.Piece (Elt F) S256x4096 .bf16 :=
  ⟨rv k, headOut (headMix (turn (View.ld x4 rc) (View.ld x5 rc) (View.ld x0 (rq k))) (keys (View.ld x4 rc) (View.ld x5 rc) (View.ld x1 (rq k))) (View.ld x2 (rv k)) (View.ld s (rs k)) (View.ld x6 (rt k)) (View.ld x7 (rt k))) (View.ld x3 (rv k))⟩

theorem read_ld {s : Shape} {e : EltTy} {sp : Space} {m : Memref sig .tc sp s e} (h : m.IsWhole) (X : s.Idx → Elt F e) (r : Rect s) :
    View.readAt (Elt F) m.view r.toLoadRect (h.unread X) = View.ld X r :=
  funext fun x => h.readAt_unread X r.toLoadRect x

/-- A read of one head's state passes over what was written to another's. -/
theorem cov_skip {sp : Space} {m : Memref sig .tc sp S8x256x512 .f32} {a b : ℕ} (hab : a ≠ b) (ia) (ib) (w) (L : List (View.Piece (Elt F) S8x256x512 .f32)) :
    m.view.readCov (⟨Rect.unit ![a, 0, 0] ![1, 256, 512] ia, w⟩ :: L) (Rect.unit ![b, 0, 0] ![1, 256, 512] ib).toLoadRect
      = m.view.readCov L (Rect.unit ![b, 0, 0] ![1, 256, 512] ib).toLoadRect :=
  View.readCov_cons_of_disjoint _ _ _ _ (Rect.unit_disjoint (inb := ia) (inb' := ib) 0 (by show a + 1 ≤ b ∨ b + 1 ≤ a; omega))

/-- A read of one head's state after the whole was written. -/
theorem cov_whole {sp : Space} {m : Memref sig .tc sp S8x256x512 .f32} (i0) (w : Vec F S8x256x512 .f32) (r : Rect S8x256x512) :
    m.view.readCov (Val := Elt F) [⟨Rect.unit ![0, 0, 0] ![8, 256, 512] i0, w⟩] r.toLoadRect = View.ld w r := by
  rw [View.readCov_eq_canon']
  rw [View.canon_unit_zero (by funext a; fin_cases a <;> rfl)]

end Any

end Cert.Kernel7Ideal.Ret

end
-- ==== Proof.RetFirst.lean ====
module

public import proofs.«01_k».proof.Proof.RetHead

@[expose] public section

set_option maxRecDepth 16384
set_option maxHeartbeats 1000000

noncomputable section

open Idealize.ShloMosaic Idealize.ShloMosaic.TcCoe Idealize.SL.Sem

namespace Cert.Kernel7Ideal.Ret

open Cert.Kernel7Ideal Cert.Kernel7Ideal.Gen

variable {F : FTy → Type} [FloatOps F]

section Body
variable (c : Dev nD) (i : grid0.Coords) (arg3 : Memref sig .tc .vmem S256x2048 .bf16) (harg3 : arg3.IsWhole) (arg4 : Memref sig .tc .vmem S256x2048 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S8x256x256 .f32) (harg9 : arg9.IsWhole) (arg10 : Memref sig .tc .vmem S8x256x256 .f32) (harg10 : arg10.IsWhole) (arg11 : Memref sig .tc .vmem S8x256x256 .f32) (harg11 : arg11.IsWhole) (arg12 : Memref sig .tc .vmem S8x1x512 .f32) (harg12 : arg12.IsWhole) (arg13 : Memref sig .tc .vmem S256x4096 .bf16) (harg13 : arg13.IsWhole) (arg14 : Memref sig .tc .vmem S8x256x512 .f32) (harg14 : arg14.IsWhole)
  (x0 x1 : Vec F S256x2048 .bf16) (x2 x3 : Vec F S256x4096 .bf16) (x4 x5 : Vec F S256x128 .f32) (x6 x7 x8 : Vec F S8x256x256 .f32) (x9 : Vec F S8x1x512 .f32)

/-- The state after a point that begins a row. -/
theorem sout_A (hc : cond0_0 i) :
    sout0_A_0 c i arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9
      = View.canon [stPiece x1 x2 x4 x5 x8 x9 k0_pay2 7, stPiece x1 x2 x4 x5 x8 x9 k0_pay2 6, stPiece x1 x2 x4 x5 x8 x9 k0_pay2 5, stPiece x1 x2 x4 x5 x8 x9 k0_pay2 4, stPiece x1 x2 x4 x5 x8 x9 k0_pay2 3, stPiece x1 x2 x4 x5 x8 x9 k0_pay2 2, stPiece x1 x2 x4 x5 x8 x9 k0_pay2 1, stPiece x1 x2 x4 x5 x8 x9 k0_pay2 0, ⟨Rect.unit ![0, 0, 0] S8x256x512.size inb_S8x256x512_S8x256x512_0_0_0, k0_pay2⟩] := by
  unfold sout0_A_0
  dsimp only [kernelRun0_A]
  refine (View.read_writes_junk_eq_canon _ _).trans ?_
  simp only [kernelRun0_A.sl.v38, kernelRun0_A.sl.v542, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, ne_eq, reduceCtorEq, not_false_eq_true, Nat.reduceEqDiff, cov_skip, cov_whole,  kernelRun0_A.sl.r_49, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.v110, kernelRun0_A.sl.v182, kernelRun0_A.sl.v254, kernelRun0_A.sl.v326, kernelRun0_A.sl.v398, kernelRun0_A.sl.v470, read_ld]
  rfl

/-- The output of a point that begins a row. -/
theorem out_A (hc : cond0_0 i) :
    out0_A_10 c i arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9
      = View.canon [outPiece x0 x1 x2 x3 x4 x5 x6 x7 k0_pay2 7, outPiece x0 x1 x2 x3 x4 x5 x6 x7 k0_pay2 6, outPiece x0 x1 x2 x3 x4 x5 x6 x7 k0_pay2 5, outPiece x0 x1 x2 x3 x4 x5 x6 x7 k0_pay2 4, outPiece x0 x1 x2 x3 x4 x5 x6 x7 k0_pay2 3, outPiece x0 x1 x2 x3 x4 x5 x6 x7 k0_pay2 2, outPiece x0 x1 x2 x3 x4 x5 x6 x7 k0_pay2 1, outPiece x0 x1 x2 x3 x4 x5 x6 x7 k0_pay2 0] := by
  unfold out0_A_10
  dsimp only [kernelRun0_A]
  refine (View.read_writes_junk_eq_canon _ _).trans ?_
  simp only [kernelRun0_A.sl.v38, kernelRun0_A.sl.v542, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, ne_eq, reduceCtorEq, not_false_eq_true, Nat.reduceEqDiff, cov_skip, cov_whole,  kernelRun0_A.sl.r_49, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.v110, kernelRun0_A.sl.v182, kernelRun0_A.sl.v254, kernelRun0_A.sl.v326, kernelRun0_A.sl.v398, kernelRun0_A.sl.v470, kernelRun0_A.sl.cst_201, read_ld]
  rfl

end Body

end Cert.Kernel7Ideal.Ret

end
-- ==== Proof.RetLater.lean ====
module

public import proofs.«01_k».proof.Proof.RetHead

@[expose] public section

set_option maxRecDepth 16384
set_option maxHeartbeats 4000000

noncomputable section

open Idealize.ShloMosaic Idealize.ShloMosaic.TcCoe Idealize.SL.Sem

namespace Cert.Kernel7Ideal.Ret

open Cert.Kernel7Ideal Cert.Kernel7Ideal.Gen

variable {F : FTy → Type} [FloatOps F]

section Body
variable (c : Dev nD) (i : grid0.Coords) (arg3 : Memref sig .tc .vmem S256x2048 .bf16) (harg3 : arg3.IsWhole) (arg4 : Memref sig .tc .vmem S256x2048 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S8x256x256 .f32) (harg9 : arg9.IsWhole) (arg10 : Memref sig .tc .vmem S8x256x256 .f32) (harg10 : arg10.IsWhole) (arg11 : Memref sig .tc .vmem S8x256x256 .f32) (harg11 : arg11.IsWhole) (arg12 : Memref sig .tc .vmem S8x1x512 .f32) (harg12 : arg12.IsWhole) (arg13 : Memref sig .tc .vmem S256x4096 .bf16) (harg13 : arg13.IsWhole) (arg14 : Memref sig .tc .vmem S8x256x512 .f32) (harg14 : arg14.IsWhole)
  (x0 x1 : Vec F S256x2048 .bf16) (x2 x3 : Vec F S256x4096 .bf16) (x4 x5 : Vec F S256x128 .f32) (x6 x7 x8 : Vec F S8x256x256 .f32) (x9 : Vec F S8x1x512 .f32) (xs0 : Vec F S8x256x512 .f32)

/-- The state after a point that finds one. -/
theorem sout_B (hc : ¬cond0_0 i) :
    sout0_B_0 c i arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 xs0
      = View.canon [stPiece x1 x2 x4 x5 x8 x9 xs0 7, stPiece x1 x2 x4 x5 x8 x9 xs0 6, stPiece x1 x2 x4 x5 x8 x9 xs0 5, stPiece x1 x2 x4 x5 x8 x9 xs0 4, stPiece x1 x2 x4 x5 x8 x9 xs0 3, stPiece x1 x2 x4 x5 x8 x9 xs0 2, stPiece x1 x2 x4 x5 x8 x9 xs0 1, stPiece x1 x2 x4 x5 x8 x9 xs0 0] := by
  unfold sout0_B_0
  dsimp only [kernelRun0_B]
  refine (View.read_writes_junk_eq_canon _ _).trans ?_
  simp only [kernelRun0_B.sl.v542, kernelRun0_B.sl.r_49, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.v110, kernelRun0_B.sl.v182, kernelRun0_B.sl.v254, kernelRun0_B.sl.v326, kernelRun0_B.sl.v398, kernelRun0_B.sl.v470, read_ld]
  rfl

/-- The output of a point that finds a state. -/
theorem out_B (hc : ¬cond0_0 i) :
    out0_B_10 c i arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 xs0
      = View.canon [outPiece x0 x1 x2 x3 x4 x5 x6 x7 xs0 7, outPiece x0 x1 x2 x3 x4 x5 x6 x7 xs0 6, outPiece x0 x1 x2 x3 x4 x5 x6 x7 xs0 5, outPiece x0 x1 x2 x3 x4 x5 x6 x7 xs0 4, outPiece x0 x1 x2 x3 x4 x5 x6 x7 xs0 3, outPiece x0 x1 x2 x3 x4 x5 x6 x7 xs0 2, outPiece x0 x1 x2 x3 x4 x5 x6 x7 xs0 1, outPiece x0 x1 x2 x3 x4 x5 x6 x7 xs0 0] := by
  unfold out0_B_10
  dsimp only [kernelRun0_B]
  refine (View.read_writes_junk_eq_canon _ _).trans ?_
  simp only [kernelRun0_B.sl.v542, kernelRun0_B.sl.r_49, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.v110, kernelRun0_B.sl.v182, kernelRun0_B.sl.v254, kernelRun0_B.sl.v326, kernelRun0_B.sl.v398, kernelRun0_B.sl.v470, kernelRun0_B.sl.cst_201, read_ld]
  rfl

end Body

end Cert.Kernel7Ideal.Ret

end
-- ==== Proof.RetMath.lean ====
module

public import proofs.«01_k».proof.Proof.Math

@[expose] public section

noncomputable section

open Idealize.ShloMosaic

namespace Cert.Ret

/-- The weight of row `m` for row `n`: both ways inside a chunk of 64, backwards from earlier chunks. -/
def wt (lg : ℝ) (n m : ℕ) : ℝ :=
  if n / 64 = m / 64 then Real.exp (lg * |(n : ℝ) - m|) else if m / 64 < n / 64 then Real.exp (lg * ((n : ℝ) - m)) else 0

/-- Inside a block of 256 rows the weight only depends on the places in the block. -/
theorem wt_block (lg : ℝ) (B r p : ℕ) : wt lg (256 * B + r) (256 * B + p) = wt lg r p := by
  have h1 : (256 * B + r) / 64 = 4 * B + r / 64 := by omega
  have h2 : (256 * B + p) / 64 = 4 * B + p / 64 := by omega
  have h3 : ((256 * B + r : ℕ) : ℝ) - ((256 * B + p : ℕ) : ℝ) = (r : ℝ) - p := by push_cast; ring
  unfold wt
  rw [h1, h2, h3]
  simp only [Nat.add_left_cancel_iff, Nat.add_lt_add_iff_left]

/-- A row of an earlier block. -/
theorem wt_before (lg : ℝ) (B r m : ℕ) (hm : m < 256 * B) : wt lg (256 * B + r) m = Real.exp (lg * ((r : ℝ) + 1)) * Real.exp (lg * (256 * (B : ℝ) - 1 - m)) := by
  unfold wt
  rw [if_neg (by omega), if_pos (by omega), ← Real.exp_add]
  congr 1
  push_cast
  ring

/-- A row of a later block. -/
theorem wt_after (lg : ℝ) (B r m : ℕ) (hr : r < 256) (hm : 256 * (B + 1) ≤ m) : wt lg (256 * B + r) m = 0 := by
  unfold wt
  rw [if_neg (by omega), if_neg (by omega)]

/-- The state before block `B`: the rows so far, decayed up to the block's first row. -/
def st (lg : ℝ) (k : ℕ → Fin 256 → ℝ) (v : ℕ → ℝ) (B : ℕ) (d : Fin 256) : ℝ :=
  ∑ m ∈ Finset.range (256 * B), Real.exp (lg * (256 * (B : ℝ) - 1 - m)) * (k m d * v m)

theorem st_zero (lg : ℝ) (k : ℕ → Fin 256 → ℝ) (v : ℕ → ℝ) (d : Fin 256) : st lg k v 0 d = 0 := by
  simp [st]

/-- The state goes on by one block: it decays by the block's length and takes up the block's rows. -/
theorem st_succ (lg : ℝ) (k : ℕ → Fin 256 → ℝ) (v : ℕ → ℝ) (B : ℕ) (d : Fin 256) :
    st lg k v (B + 1) d = st lg k v B d * Real.exp (lg * 256)
      + ∑ p : Fin 256, k (256 * B + p.val) d * Real.exp (lg * (255 - (p.val : ℝ))) * v (256 * B + p.val) := by
  unfold st
  rw [show 256 * (B + 1) = 256 * B + 256 by ring, Finset.sum_range_add, Finset.sum_mul, Finset.sum_range]
  congr 1
  · rw [Finset.sum_range]
    refine Finset.sum_congr rfl fun m _ => ?_
    rw [mul_right_comm, ← Real.exp_add]
    congr 2
    push_cast
    ring
  · rw [Finset.sum_range]
    refine Finset.sum_congr rfl fun p _ => ?_
    rw [show lg * (256 * ((B + 1 : ℕ) : ℝ) - 1 - ((256 * B + p.val : ℕ) : ℝ)) = lg * (255 - (p.val : ℝ)) by push_cast; ring]
    ring

/-- A row's sum over all rows is its sum inside its block and what the state gives. -/
theorem out_eq (lg : ℝ) (q : Fin 256 → ℝ) (k : ℕ → Fin 256 → ℝ) (v : ℕ → ℝ) (B r : ℕ) (hB : B < 8) (hr : r < 256) :
    (∑ p : Fin 256, (∑ d, q d * k (256 * B + p.val) d) * wt lg r p.val * v (256 * B + p.val))
      + ∑ d, q d * Real.exp (lg * ((r : ℝ) + 1)) * st lg k v B d
    = ∑ m : Fin 2048, (∑ d, q d * k m.val d) * wt lg (256 * B + r) m.val * v m.val := by
  have e : ∑ m : Fin 2048, (∑ d, q d * k m.val d) * wt lg (256 * B + r) m.val * v m.val
      = ∑ m ∈ Finset.range 2048, (∑ d, q d * k m d) * wt lg (256 * B + r) m * v m :=
    (Finset.sum_range fun m => (∑ d, q d * k m d) * wt lg (256 * B + r) m * v m).symm
  rw [e, show 2048 = 256 * B + (256 + (2048 - 256 * (B + 1))) by omega, Finset.sum_range_add, Finset.sum_range_add]
  have e3 : ∑ x ∈ Finset.range (2048 - 256 * (B + 1)), (∑ d, q d * k (256 * B + (256 + x)) d) * wt lg (256 * B + r) (256 * B + (256 + x)) * v (256 * B + (256 + x)) = 0 := by
    refine Finset.sum_eq_zero fun x _ => ?_
    rw [wt_after lg B r _ hr (by omega), mul_zero, zero_mul]
  rw [e3, add_zero, add_comm, Finset.sum_range fun p => (∑ d, q d * k (256 * B + p) d) * wt lg (256 * B + r) (256 * B + p) * v (256 * B + p)]
  congr 1
  · unfold st
    simp only [Finset.mul_sum]
    rw [Finset.sum_comm]
    refine Finset.sum_congr rfl fun m hm => ?_
    rw [wt_before lg B r m (Finset.mem_range.mp hm), Finset.sum_mul, Finset.sum_mul]
    refine Finset.sum_congr rfl fun d _ => ?_
    ring
  · refine Finset.sum_congr rfl fun p _ => ?_
    rw [wt_block]

/-! ## The values as extended reals -/

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A row turned by its angles. -/
def rot (x : Fin 256 → EReal) (cs sn : Fin 128 → EReal) (d : Fin 256) : EReal :=
  if h : d.val < 128 then x d * cs ⟨d.val, h⟩ - x ⟨d.val + 128, by omega⟩ * sn ⟨d.val, h⟩
  else x ⟨d.val - 128, by omega⟩ * sn ⟨d.val - 128, by omega⟩ + x d * cs ⟨d.val - 128, by omega⟩

theorem rot_real (x : Fin 256 → EReal) (cs sn : Fin 128 → EReal) (hx : ∀ d, Attn.IsReal (x d)) (hc : ∀ d, Attn.IsReal (cs d)) (hs : ∀ d, Attn.IsReal (sn d)) (d : Fin 256) :
    Attn.IsReal (rot x cs sn d) := by
  unfold rot
  split
  · obtain ⟨a, ha⟩ := (hx d).mul (hc ⟨d.val, by assumption⟩)
    obtain ⟨b, hb⟩ := (hx ⟨d.val + 128, by omega⟩).mul (hs ⟨d.val, by assumption⟩)
    rw [ha, hb]
    exact ⟨a - b, (EReal.coe_sub a b).symm⟩
  · exact ((hx _).mul (hs _)).add ((hx _).mul (hc _))

end Cert.Ret

end
-- ==== Proof.RetVal.lean ====
module

public import proofs.«01_k».proof.Proof.RetHead
public import proofs.«01_k».proof.Proof.RetMath
public import Idealize.ShloMosaic.Lib.Tactic

@[expose] public section

set_option maxRecDepth 16384

noncomputable section

open Idealize.ShloMosaic Idealize.ShloMosaic.TcCoe Idealize.ShloMosaic.Tactic Idealize.SL.Sem

namespace Cert.Ret

/-- A mixed value, rms-normalised over the head's values and gated. -/
def fin (g : EReal) (o : Fin 512 → EReal) (e : Fin 512) : EReal :=
  g * Ideal.logistic g * (o e * Ideal.rsqrt (Ideal.div (∑ j, o j * o j) (Ideal.ofBits .f32 0x44000000#32) + Ideal.ofBits .f32 0x358637BD#32))

end Cert.Ret

namespace Cert.Kernel7Ideal.Ret

open Cert.Kernel7Ideal Cert.Kernel7Ideal.Gen

theorem turn_at (cs sn : FVec Ideal S256x128 .f32) (x : FVec Ideal S256x256 .bf16) (r : Fin 256) (d : Fin 256) :
    turn cs sn x (ix2 r d) = Cert.Ret.rot (fun d => x (ix2 r d)) (fun j => cs (ix2 r j)) (fun j => sn (ix2 r j)) d := by
  unfold Cert.Ret.rot
  by_cases h : d.val < 128
  · pointwise [turn]
    simp only [h, dif_pos, Nat.add_comm 128]
  · pointwise [turn]
    simp only [h, dif_neg, not_false_eq_true, show 128 + (d.val - 128) = d.val by omega]

theorem keys_at (cs sn : FVec Ideal S256x128 .f32) (x : FVec Ideal S256x256 .bf16) (r : Fin 256) (d : Fin 256) :
    keys cs sn x (ix2 r d) = Cert.Ret.rot (fun d => x (ix2 r d)) (fun j => cs (ix2 r j)) (fun j => sn (ix2 r j)) d * Ideal.ofBits .f32 0x3D800000#32 := by
  rw [← turn_at]
  pointwise [keys]

theorem headSt_at (k : FVec Ideal S256x256 .f32) (v : FVec Ideal S256x512 .bf16) (s : FVec Ideal S1x256x512 .f32) (cd : FVec Ideal S1x1x512 .f32) (kd : FVec Ideal S1x256x256 .f32) (d : Fin 256) (e : Fin 512) :
    headSt k v s cd kd (ix3 0 d e) = s (ix3 0 d e) * cd (ix3 0 0 e) + ∑ p, k (ix2 p d) * kd (ix3 0 p d) * v (ix2 p e) := by
  pointwise [headSt]

theorem headMix_at (q k : FVec Ideal S256x256 .f32) (v : FVec Ideal S256x512 .bf16) (s : FVec Ideal S1x256x512 .f32) (dec qd : FVec Ideal S1x256x256 .f32) (r : Fin 256) (e : Fin 512) :
    headMix q k v s dec qd (ix2 r e)
      = (∑ p, (∑ d, q (ix2 r d) * k (ix2 p d)) * dec (ix3 0 r p) * v (ix2 p e)) + ∑ d, q (ix2 r d) * qd (ix3 0 r d) * s (ix3 0 d e) := by
  pointwise [headMix]

theorem headOut_at (o : FVec Ideal S256x512 .f32) (g : FVec Ideal S256x512 .bf16) (r : Fin 256) (e : Fin 512) :
    headOut o g (ix2 r e) = Cert.Ret.fin (g (ix2 r e)) (fun j => o (ix2 r j)) e := by
  unfold Cert.Ret.fin
  pointwise [headOut]

/-- Column `d` of head `k` among the queries or keys. -/
def cq (k : Fin 8) (d : Fin 256) : Fin 2048 := ⟨256 * k.val + d.val, by omega⟩
/-- Column `e` of head `k` among the values. -/
def cv (k : Fin 8) (e : Fin 512) : Fin 4096 := ⟨512 * k.val + e.val, by omega⟩

/-! The loads of the blocks' parts, at an element. -/

def lq (x : Vec Ideal S256x2048 .bf16) (k : Fin 8) : FVec Ideal S256x256 .bf16 := View.ld x (rq k)
theorem ld_q (x : Vec Ideal S256x2048 .bf16) (k : Fin 8) (r d : Fin 256) : lq x k (ix2 r d) = x (ix2 r (cq k d)) := by
  unfold lq rq cq
  pointwise

def lv (x : Vec Ideal S256x4096 .bf16) (k : Fin 8) : FVec Ideal S256x512 .bf16 := View.ld x (rv k)
theorem ld_v (x : Vec Ideal S256x4096 .bf16) (k : Fin 8) (r : Fin 256) (d : Fin 512) : lv x k (ix2 r d) = x (ix2 r (cv k d)) := by
  unfold lv rv cv
  pointwise

def lc (x : Vec Ideal S256x128 .f32) : FVec Ideal S256x128 .f32 := View.ld x (rc)
theorem ld_c (x : Vec Ideal S256x128 .f32) (r : Fin 256) (d : Fin 128) : lc x (ix2 r d) = x (ix2 r d) := by
  unfold lc rc
  pointwise

def lt (x : Vec Ideal S8x256x256 .f32) (k : Fin 8) : FVec Ideal S1x256x256 .f32 := View.ld x (rt k)
theorem ld_t (x : Vec Ideal S8x256x256 .f32) (k : Fin 8) (r d : Fin 256) : lt x k (ix3 0 r d) = x (ix3 k r d) := by
  unfold lt rt
  pointwise

def ls (x : Vec Ideal S8x256x512 .f32) (k : Fin 8) : FVec Ideal S1x256x512 .f32 := View.ld x (rs k)
theorem ld_s (x : Vec Ideal S8x256x512 .f32) (k : Fin 8) (r : Fin 256) (d : Fin 512) : ls x k (ix3 0 r d) = x (ix3 k r d) := by
  unfold ls rs
  pointwise

def ld (x : Vec Ideal S8x1x512 .f32) (k : Fin 8) : FVec Ideal S1x1x512 .f32 := View.ld x (rd k)
theorem ld_d (x : Vec Ideal S8x1x512 .f32) (k : Fin 8) (d : Fin 512) : ld x k (ix3 0 0 d) = x (ix3 k 0 d) := by
  unfold ld rd
  pointwise

/-- The state after a point, at an element. -/
def stVal (x1 : Vec Ideal S256x2048 .bf16) (x2 : Vec Ideal S256x4096 .bf16) (x4 x5 : Vec Ideal S256x128 .f32) (x8 : Vec Ideal S8x256x256 .f32) (x9 : Vec Ideal S8x1x512 .f32) (s : Vec Ideal S8x256x512 .f32) (k : Fin 8) (d : Fin 256) (e : Fin 512) : EReal :=
  s (ix3 k d e) * x9 (ix3 k 0 e)
    + ∑ p : Fin 256, Cert.Ret.rot (fun d => x1 (ix2 p (cq k d))) (fun j => x4 (ix2 p j)) (fun j => x5 (ix2 p j)) d * Ideal.ofBits .f32 0x3D800000#32 * x8 (ix3 k p d) * x2 (ix2 p (cv k e))

/-- The mixed values of a point, at an element. -/
def mixVal (x0 x1 : Vec Ideal S256x2048 .bf16) (x2 : Vec Ideal S256x4096 .bf16) (x4 x5 : Vec Ideal S256x128 .f32) (x6 x7 : Vec Ideal S8x256x256 .f32) (s : Vec Ideal S8x256x512 .f32) (k : Fin 8) (r : Fin 256) (e : Fin 512) : EReal :=
  (∑ p : Fin 256, (∑ d, Cert.Ret.rot (fun d => x0 (ix2 r (cq k d))) (fun j => x4 (ix2 r j)) (fun j => x5 (ix2 r j)) d
      * (Cert.Ret.rot (fun d => x1 (ix2 p (cq k d))) (fun j => x4 (ix2 p j)) (fun j => x5 (ix2 p j)) d * Ideal.ofBits .f32 0x3D800000#32)) * x6 (ix3 k r p) * x2 (ix2 p (cv k e)))
    + ∑ d, Cert.Ret.rot (fun d => x0 (ix2 r (cq k d))) (fun j => x4 (ix2 r j)) (fun j => x5 (ix2 r j)) d * x7 (ix3 k r d) * s (ix3 k d e)

theorem stPiece_at (x1 : Vec Ideal S256x2048 .bf16) (x2 : Vec Ideal S256x4096 .bf16) (x4 x5 : Vec Ideal S256x128 .f32) (x8 : Vec Ideal S8x256x256 .f32) (x9 : Vec Ideal S8x1x512 .f32) (s : Vec Ideal S8x256x512 .f32) (k : Fin 8) (d : Fin 256) (e : Fin 512) :
    (stPiece x1 x2 x4 x5 x8 x9 s k).2 (ix3 0 d e) = stVal x1 x2 x4 x5 x8 x9 s k d e := by
  refine (headSt_at (keys (lc x4) (lc x5) (lq x1 k)) (lv x2 k) (ls s k) (ld x9 k) (lt x8 k) d e).trans ?_
  unfold stVal
  simp only [keys_at, ld_q, ld_v, ld_c, ld_t, ld_s, ld_d]

theorem outPiece_at (x0 x1 : Vec Ideal S256x2048 .bf16) (x2 x3 : Vec Ideal S256x4096 .bf16) (x4 x5 : Vec Ideal S256x128 .f32) (x6 x7 : Vec Ideal S8x256x256 .f32) (s : Vec Ideal S8x256x512 .f32) (k : Fin 8) (r : Fin 256) (e : Fin 512) :
    (outPiece x0 x1 x2 x3 x4 x5 x6 x7 s k).2 (ix2 r e) = Cert.Ret.fin (x3 (ix2 r (cv k e))) (mixVal x0 x1 x2 x4 x5 x6 x7 s k r) e := by
  refine (headOut_at (headMix (turn (lc x4) (lc x5) (lq x0 k)) (keys (lc x4) (lc x5) (lq x1 k)) (lv x2 k) (ls s k) (lt x6 k) (lt x7 k)) (lv x3 k) r e).trans ?_
  rw [ld_v]
  congr 1
  funext j
  rw [headMix_at]
  unfold mixVal
  simp only [turn_at, keys_at, ld_q, ld_v, ld_c, ld_t, ld_s]

end Cert.Kernel7Ideal.Ret

end
-- ==== Proof.RetPoint.lean ====
module

public import proofs.«01_k».proof.Proof.RetFirst
public import proofs.«01_k».proof.Proof.RetLater
public import proofs.«01_k».proof.Proof.RetVal

@[expose] public section

set_option maxRecDepth 16384

noncomputable section

open Idealize.ShloMosaic Idealize.ShloMosaic.TcCoe Idealize.ShloMosaic.Tactic Idealize.SL.Sem

namespace Cert.Kernel7Ideal.Ret

open Cert.Kernel7Ideal Cert.Kernel7Ideal.Gen

theorem mem8 {α : Type*} (f : Fin 8 → α) (k : Fin 8) : f k ∈ [f 7, f 6, f 5, f 4, f 3, f 2, f 1, f 0] := by
  fin_cases k <;> simp

theorem all8 {α : Type*} {P : α → Prop} (f : Fin 8 → α) (h : ∀ k, P (f k)) : ∀ p ∈ [f 7, f 6, f 5, f 4, f 3, f 2, f 1, f 0], P p := by
  simp only [List.forall_mem_cons, h, true_and]
  exact fun p hp => absurd hp List.not_mem_nil

theorem rs_mem (k : Fin 8) (d : Fin 256) (e : Fin 512) : (ix3 k d e : S8x256x512.Idx) ∈ (rs k).set := by
  unfold rs
  refine Rect.mem_set_unit.mpr (Fin.forall_fin_succ.mpr ⟨?_, Fin.forall_fin_two.mpr ⟨?_, ?_⟩⟩)
  · show k.val ≤ k.val ∧ k.val < k.val + 1; omega
  · have := d.isLt; show 0 ≤ d.val ∧ d.val < 0 + 256; omega
  · have := e.isLt; show 0 ≤ e.val ∧ e.val < 0 + 512; omega

theorem rv_mem (k : Fin 8) (r : Fin 256) (e : Fin 512) : (ix2 r (cv k e) : S256x4096.Idx) ∈ (rv k).set := by
  unfold rv
  refine Rect.mem_set_unit.mpr (Fin.forall_fin_two.mpr ⟨?_, ?_⟩)
  · have := r.isLt; show 0 ≤ r.val ∧ r.val < 0 + 256; omega
  · have := e.isLt; show 512 * k.val ≤ 512 * k.val + e.val ∧ 512 * k.val + e.val < 512 * k.val + 512; omega

theorem rs_emb (k : Fin 8) (d : Fin 256) (e : Fin 512) : (rs k).emb (ix3 0 d e) = (ix3 k d e : S8x256x512.Idx) := by
  refine funext (Fin.forall_fin_succ.mpr ⟨Fin.ext ?_, Fin.forall_fin_two.mpr ⟨Fin.ext ?_, Fin.ext ?_⟩⟩)
  · show k.val + 1 * 0 = k.val; omega
  · show 0 + 1 * d.val = d.val; omega
  · show 0 + 1 * e.val = e.val; omega

theorem rv_emb (k : Fin 8) (r : Fin 256) (e : Fin 512) : (rv k).emb (ix2 r e) = (ix2 r (cv k e) : S256x4096.Idx) := by
  refine funext (Fin.forall_fin_two.mpr ⟨Fin.ext ?_, Fin.ext ?_⟩)
  · show 0 + 1 * r.val = r.val; omega
  · show 512 * k.val + 1 * e.val = 512 * k.val + e.val; omega

/-- What the pieces leave in the state, as a function of the index. -/
def stG (x1 : Vec Ideal S256x2048 .bf16) (x2 : Vec Ideal S256x4096 .bf16) (x4 x5 : Vec Ideal S256x128 .f32) (x8 : Vec Ideal S8x256x256 .f32) (x9 : Vec Ideal S8x1x512 .f32) (s : Vec Ideal S8x256x512 .f32) : S8x256x512.Idx → EReal :=
  fun y => stVal x1 x2 x4 x5 x8 x9 s (y 0) (y 1) (y 2)

/-- What the pieces leave in the output, as a function of the index. -/
def outG (x0 x1 : Vec Ideal S256x2048 .bf16) (x2 x3 : Vec Ideal S256x4096 .bf16) (x4 x5 : Vec Ideal S256x128 .f32) (x6 x7 : Vec Ideal S8x256x256 .f32) (s : Vec Ideal S8x256x512 .f32) : S256x4096.Idx → EReal :=
  fun y => Cert.Ret.fin (x3 (ix2 (y 0) (y 1))) (mixVal x0 x1 x2 x4 x5 x6 x7 s ⟨(y 1).val / 512, by have h : (y 1).val < 4096 := (y 1).isLt; omega⟩ (y 0)) ⟨(y 1).val % 512, Nat.mod_lt _ (by omega)⟩

theorem outG_at (x0 x1 : Vec Ideal S256x2048 .bf16) (x2 x3 : Vec Ideal S256x4096 .bf16) (x4 x5 : Vec Ideal S256x128 .f32) (x6 x7 : Vec Ideal S8x256x256 .f32) (s : Vec Ideal S8x256x512 .f32) (k : Fin 8) (r : Fin 256) (e : Fin 512) :
    outG x0 x1 x2 x3 x4 x5 x6 x7 s (ix2 r (cv k e)) = Cert.Ret.fin (x3 (ix2 r (cv k e))) (mixVal x0 x1 x2 x4 x5 x6 x7 s k r) e := by
  have h1 : (⟨(cv k e).val / 512, by have h : (cv k e).val < 4096 := (cv k e).isLt; omega⟩ : Fin 8) = k := Fin.ext (by have := e.isLt; show (512 * k.val + e.val) / 512 = k.val; omega)
  have h2 : (⟨(cv k e).val % 512, Nat.mod_lt _ (by omega)⟩ : Fin 512) = e := Fin.ext (by have := e.isLt; show (512 * k.val + e.val) % 512 = e.val; omega)
  show Cert.Ret.fin (x3 (ix2 r (cv k e))) (mixVal x0 x1 x2 x4 x5 x6 x7 s ⟨(cv k e).val / 512, _⟩ r) ⟨(cv k e).val % 512, _⟩ = _
  rw [h1, h2]

theorem stPiece_G (x1 : Vec Ideal S256x2048 .bf16) (x2 : Vec Ideal S256x4096 .bf16) (x4 x5 : Vec Ideal S256x128 .f32) (x8 : Vec Ideal S8x256x256 .f32) (x9 : Vec Ideal S8x1x512 .f32) (s : Vec Ideal S8x256x512 .f32) (k : Fin 8) (x : (rs k).shape.Idx) :
    (stPiece x1 x2 x4 x5 x8 x9 s k).2 x = stG x1 x2 x4 x5 x8 x9 s ((rs k).emb x) := by
  obtain ⟨z, d, e, rfl⟩ : ∃ (z : Fin 1) (d : Fin 256) (e : Fin 512), x = ix3 z d e := ⟨x 0, x 1, x 2, eq_ix3 x⟩
  obtain rfl : z = 0 := Subsingleton.elim _ _
  refine (stPiece_at x1 x2 x4 x5 x8 x9 s k d e).trans ?_
  exact (congrArg (stG x1 x2 x4 x5 x8 x9 s) (rs_emb k d e)).symm

theorem outPiece_G (x0 x1 : Vec Ideal S256x2048 .bf16) (x2 x3 : Vec Ideal S256x4096 .bf16) (x4 x5 : Vec Ideal S256x128 .f32) (x6 x7 : Vec Ideal S8x256x256 .f32) (s : Vec Ideal S8x256x512 .f32) (k : Fin 8) (x : (rv k).shape.Idx) :
    (outPiece x0 x1 x2 x3 x4 x5 x6 x7 s k).2 x = outG x0 x1 x2 x3 x4 x5 x6 x7 s ((rv k).emb x) := by
  obtain ⟨r, e, rfl⟩ : ∃ (r : Fin 256) (e : Fin 512), x = ix2 r e := ⟨x 0, x 1, eq_ix2 x⟩
  refine (outPiece_at x0 x1 x2 x3 x4 x5 x6 x7 s k r e).trans ?_
  exact ((congrArg (outG x0 x1 x2 x3 x4 x5 x6 x7 s) (rv_emb k r e)).trans (outG_at x0 x1 x2 x3 x4 x5 x6 x7 s k r e)).symm

section Body
variable (c : Dev nD) (i : grid0.Coords) (arg3 : Memref sig .tc .vmem S256x2048 .bf16) (harg3 : arg3.IsWhole) (arg4 : Memref sig .tc .vmem S256x2048 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S8x256x256 .f32) (harg9 : arg9.IsWhole) (arg10 : Memref sig .tc .vmem S8x256x256 .f32) (harg10 : arg10.IsWhole) (arg11 : Memref sig .tc .vmem S8x256x256 .f32) (harg11 : arg11.IsWhole) (arg12 : Memref sig .tc .vmem S8x1x512 .f32) (harg12 : arg12.IsWhole) (arg13 : Memref sig .tc .vmem S256x4096 .bf16) (harg13 : arg13.IsWhole) (arg14 : Memref sig .tc .vmem S8x256x512 .f32) (harg14 : arg14.IsWhole)
  (x0 x1 : Vec Ideal S256x2048 .bf16) (x2 x3 : Vec Ideal S256x4096 .bf16) (x4 x5 : Vec Ideal S256x128 .f32) (x6 x7 x8 : Vec Ideal S8x256x256 .f32) (x9 : Vec Ideal S8x1x512 .f32) (xs0 : Vec Ideal S8x256x512 .f32)

theorem sout_B_at (hc : ¬cond0_0 i) (k : Fin 8) (d : Fin 256) (e : Fin 512) :
    sout0_B_0 c i arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 xs0 (ix3 k d e) = stVal x1 x2 x4 x5 x8 x9 xs0 k d e := by
  rw [sout_B]
  exact View.canon_apply_of_pieces (stG x1 x2 x4 x5 x8 x9 xs0) _ (all8 (P := fun p => ∀ x, p.2 x = stG x1 x2 x4 x5 x8 x9 xs0 (p.1.emb x)) (stPiece x1 x2 x4 x5 x8 x9 xs0) (stPiece_G x1 x2 x4 x5 x8 x9 xs0)) _ ⟨_, mem8 (stPiece x1 x2 x4 x5 x8 x9 xs0) k, rs_mem k d e⟩

theorem sout_A_at (hc : cond0_0 i) (k : Fin 8) (d : Fin 256) (e : Fin 512) :
    sout0_A_0 c i arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 (ix3 k d e) = stVal x1 x2 x4 x5 x8 x9 (k0_pay2 (F := Ideal)) k d e := by
  rw [sout_A]
  exact View.canon_append_of_pieces (stG x1 x2 x4 x5 x8 x9 (k0_pay2 (F := Ideal))) [_] _ (all8 (P := fun p => ∀ x, p.2 x = stG x1 x2 x4 x5 x8 x9 (k0_pay2 (F := Ideal)) (p.1.emb x)) (stPiece x1 x2 x4 x5 x8 x9 (k0_pay2 (F := Ideal))) (stPiece_G x1 x2 x4 x5 x8 x9 (k0_pay2 (F := Ideal)))) _ ⟨_, mem8 (stPiece x1 x2 x4 x5 x8 x9 (k0_pay2 (F := Ideal))) k, rs_mem k d e⟩

theorem out_B_at (hc : ¬cond0_0 i) (k : Fin 8) (r : Fin 256) (e : Fin 512) :
    out0_B_10 c i arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 xs0 (ix2 r (cv k e)) = Cert.Ret.fin (x3 (ix2 r (cv k e))) (mixVal x0 x1 x2 x4 x5 x6 x7 xs0 k r) e := by
  rw [out_B]
  exact (View.canon_apply_of_pieces (outG x0 x1 x2 x3 x4 x5 x6 x7 xs0) _ (all8 (P := fun p => ∀ x, p.2 x = outG x0 x1 x2 x3 x4 x5 x6 x7 xs0 (p.1.emb x)) (outPiece x0 x1 x2 x3 x4 x5 x6 x7 xs0) (outPiece_G x0 x1 x2 x3 x4 x5 x6 x7 xs0)) _ ⟨_, mem8 (outPiece x0 x1 x2 x3 x4 x5 x6 x7 xs0) k, rv_mem k r e⟩).trans (outG_at ..)

theorem out_A_at (hc : cond0_0 i) (k : Fin 8) (r : Fin 256) (e : Fin 512) :
    out0_A_10 c i arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 (ix2 r (cv k e)) = Cert.Ret.fin (x3 (ix2 r (cv k e))) (mixVal x0 x1 x2 x4 x5 x6 x7 (k0_pay2 (F := Ideal)) k r) e := by
  rw [out_A]
  exact (View.canon_apply_of_pieces (outG x0 x1 x2 x3 x4 x5 x6 x7 (k0_pay2 (F := Ideal))) _ (all8 (P := fun p => ∀ x, p.2 x = outG x0 x1 x2 x3 x4 x5 x6 x7 (k0_pay2 (F := Ideal)) (p.1.emb x)) (outPiece x0 x1 x2 x3 x4 x5 x6 x7 (k0_pay2 (F := Ideal))) (outPiece_G x0 x1 x2 x3 x4 x5 x6 x7 (k0_pay2 (F := Ideal)))) _ ⟨_, mem8 (outPiece x0 x1 x2 x3 x4 x5 x6 x7 (k0_pay2 (F := Ideal))) k, rv_mem k r e⟩).trans (outG_at ..)

end Body

theorem zero_at (k : Fin 8) (d : Fin 256) (e : Fin 512) : (k0_pay2 : FVec Ideal S8x256x512 .f32) (ix3 k d e) = 0 := by
  pointwise [k0_pay2]

end Cert.Kernel7Ideal.Ret

end
-- ==== Proof.RetNum.lean ====
module

public import proofs.«01_k».proof.Proof.RetMath
public import Idealize.ShloMosaic.Lib.Pipeline.ValueKit
public import Idealize.ShloMosaic.Lib.Pointwise
public import Idealize.ShloMosaic.Lib.Tactic

@[expose] public section

set_option maxRecDepth 16384

noncomputable section

open Idealize.ShloMosaic Cert.Attn

namespace Cert.Ret

/-- A place as a number. -/
def ip (n : ℕ) : EReal := (FloatOps.sitofp .f32 (BitVec.ofNat 32 n) : Ideal .f32)

/-- The angle of pair `j` of channels at row `n`. -/
def ang (n j : ℕ) : EReal :=
  ip n * Ideal.pow (Ideal.ofBits .f32 0x461C4000#32) (Ideal.div (-(ip j)) (Ideal.ofBits .f32 0x43000000#32))

/-- The logarithm of a head's decay. -/
def lgE (h : ℕ) : EReal :=
  Ideal.log (1 - Ideal.pow (Ideal.ofBits .f32 0x40000000#32) (Ideal.ofBits .f32 0xC0A00000#32 - ip h))

theorem ip_val (n : ℕ) (hn : n < 4096) : ip n = ((n : ℝ) : EReal) := by
  show (((BitVec.ofNat 32 n).toInt : ℝ) : EReal) = _
  have : (BitVec.ofNat 32 n).toInt = (n : ℤ) := by
    rw [BitVec.toInt_eq_toNat_of_lt (by rw [BitVec.toNat_ofNat, Nat.mod_eq_of_lt (by omega)]; omega), BitVec.toNat_ofNat, Nat.mod_eq_of_lt (by omega)]
  rw [this]
  simp

theorem c10000 : Ideal.ofBits .f32 0x461C4000#32 = ((10000 : ℝ) : EReal) := by
  simp [Ideal.ofBits, Ideal.ieee]
  rw [← EReal.coe_mul]; norm_num
theorem c2 : Ideal.ofBits .f32 0x40000000#32 = ((2 : ℝ) : EReal) := by
  simp [Ideal.ofBits, Ideal.ieee]
  first | done | (rw [← EReal.coe_mul]; norm_num) | norm_num
theorem cm5 : Ideal.ofBits .f32 0xC0A00000#32 = ((-5 : ℝ) : EReal) := by
  simp [Ideal.ofBits, Ideal.ieee]
  rw [← EReal.coe_mul]; norm_num
theorem c255 : Ideal.ofBits .f32 0x437F0000#32 = ((255 : ℝ) : EReal) := by
  simp [Ideal.ofBits, Ideal.ieee]
  rw [← EReal.coe_mul]; norm_num
theorem c256 : Ideal.ofBits .f32 0x43800000#32 = ((256 : ℝ) : EReal) := by
  simp [Ideal.ofBits, Ideal.ieee]
  rw [← EReal.coe_mul]; norm_num
theorem c0 : Ideal.ofBits .f32 0#32 = 0 := by
  simp [Ideal.ofBits, Ideal.ieee]
theorem c16 : IsReal (Ideal.ofBits .f32 0x3D800000#32) := by
  simp only [Ideal.ofBits, Ideal.ieee]
  exact ⟨_, rfl⟩

theorem ang_real (n j : ℕ) (hn : n < 4096) (hj : j < 4096) : IsReal (ang n j) := by
  unfold ang
  rw [ip_val n hn, ip_val j hj, c10000, c128]
  have e : Ideal.div (-((j : ℝ) : EReal)) ((128 : ℝ) : EReal) = ((-(j : ℝ) / 128 : ℝ) : EReal) := by
    unfold Ideal.div
    rw [if_neg (by exact_mod_cast (by norm_num : (128 : ℝ) ≠ 0)), ← EReal.coe_neg, ← EReal.coe_inv, ← EReal.coe_mul, div_eq_mul_inv]
  rw [e, Ideal.pow_coe_coe]
  exact ⟨_, (EReal.coe_mul _ _).symm⟩

theorem cos_real {x : EReal} (h : IsReal x) : IsReal (Ideal.cos x) := by
  obtain ⟨r, rfl⟩ := h; exact ⟨_, Ideal.cos_coe r⟩
theorem sin_real {x : EReal} (h : IsReal x) : IsReal (Ideal.sin x) := by
  obtain ⟨r, rfl⟩ := h; exact ⟨_, Ideal.sin_coe r⟩

theorem lgE_real (h : ℕ) (hh : h < 8) : IsReal (lgE h) := by
  unfold lgE
  rw [ip_val h (by omega), c2, cm5, ← EReal.coe_sub, Ideal.pow_coe_coe]
  have e : (1 : EReal) - ((Real.rpow 2 (-5 - (h : ℝ)) : ℝ) : EReal) = ((1 - Real.rpow 2 (-5 - (h : ℝ)) : ℝ) : EReal) := by
    rw [EReal.coe_sub]; rfl
  rw [e, Ideal.log_coe, if_neg]
  · exact ⟨_, rfl⟩
  · have : Real.rpow 2 (-5 - (h : ℝ)) < 1 := Real.rpow_lt_one_of_one_lt_of_neg (by norm_num) (by have : (0 : ℝ) ≤ h := Nat.cast_nonneg h; linarith)
    linarith

/-! ## The chunks -/

theorem chunk_val : ∀ n : Fin 2048, IntOp.divsi ArithUnit.host (BitVec.ofNat 32 n.val) 64#32 = BitVec.ofNat 32 (n.val / 64) := by
  decide +kernel
theorem eq_val : ∀ a b : Fin 32, IntOp.cmpi .eq (BitVec.ofNat 32 a.val) (BitVec.ofNat 32 b.val) = BitVec.ofBool (decide (a.val = b.val)) := by
  decide +kernel
theorem lt_val : ∀ a b : Fin 32, IntOp.cmpi .slt (BitVec.ofNat 32 a.val) (BitVec.ofNat 32 b.val) = BitVec.ofBool (decide (a.val < b.val)) := by
  decide +kernel

theorem sel_val {α : Type} (p : Prop) [Decidable p] (x y : α) : Scalar.select (BitVec.ofBool (decide p)) x y = if p then x else y := by
  by_cases h : p
  · rw [if_pos h, decide_eq_true h]; rfl
  · rw [if_neg h, decide_eq_false h]; rfl

theorem abs_val (r : ℝ) : (FloatOps.absf (F := Ideal) (φ := .f32) ((r : ℝ) : EReal) : EReal) = ((|r| : ℝ) : EReal) := by
  show max ((r : ℝ) : EReal) (-((r : ℝ) : EReal)) = _
  rw [← EReal.coe_neg, abs_eq_max_neg]
  exact (EReal.coe_strictMono.monotone.map_max).symm

/-- The chunk of a place, as the kernel's table takes it. -/
def ck (n : ℕ) : EReal := FloatOps.hostUnary (F := Ideal) (φ := .f32) .floor (Ideal.div (ip n) (Ideal.ofBits .f32 0x42800000#32))

theorem c64 : Ideal.ofBits .f32 0x42800000#32 = ((64 : ℝ) : EReal) := by
  simp [Ideal.ofBits, Ideal.ieee]
  rw [← EReal.coe_mul]; norm_num

theorem ck_val (n : ℕ) (hn : n < 4096) : ck n = (((n / 64 : ℕ) : ℝ) : EReal) := by
  unfold ck
  rw [ip_val n hn, c64]
  have e : Ideal.div ((n : ℝ) : EReal) ((64 : ℝ) : EReal) = (((n : ℝ) / 64 : ℝ) : EReal) := by
    unfold Ideal.div
    rw [if_neg (by exact_mod_cast (by norm_num : (64 : ℝ) ≠ 0)), ← EReal.coe_inv, ← EReal.coe_mul, div_eq_mul_inv]
  rw [e]
  show (((⌊(n : ℝ) / 64⌋ : ℤ) : ℝ) : EReal) = _
  have h : ⌊(n : ℝ) / 64⌋ = ((n / 64 : ℕ) : ℤ) := by
    have h1 : (64 * (n / 64 : ℕ) : ℝ) ≤ n := by exact_mod_cast Nat.mul_div_le n 64
    have h2 : (n : ℝ) < 64 * (n / 64 : ℕ) + 64 := by exact_mod_cast (by omega : n < 64 * (n / 64) + 64)
    rw [Int.floor_eq_iff, Int.cast_natCast]
    constructor <;> linarith
  rw [h, Int.cast_natCast]

theorem ck_eq (n p : ℕ) (hn : n < 4096) (hp : p < 4096) : FloatOps.cmpf (F := Ideal) (φ := .f32) .oeq (ck n) (ck p) = BitVec.ofBool (decide (n / 64 = p / 64)) := by
  rw [ck_val n hn, ck_val p hp]
  show BitVec.ofBool (decide ((((n / 64 : ℕ) : ℝ) : EReal) = (((p / 64 : ℕ) : ℝ) : EReal))) = _
  simp only [EReal.coe_eq_coe_iff, Nat.cast_inj]
theorem ck_le (n p : ℕ) (hn : n < 4096) (hp : p < 4096) : FloatOps.cmpf (F := Ideal) (φ := .f32) .ole (ck p) (ck n) = BitVec.ofBool (decide (p / 64 ≤ n / 64)) := by
  rw [ck_val n hn, ck_val p hp]
  show BitVec.ofBool (decide ((((p / 64 : ℕ) : ℝ) : EReal) ≤ (((n / 64 : ℕ) : ℝ) : EReal))) = _
  simp only [EReal.coe_le_coe_iff, Nat.cast_le]

/-- The kernel's table of the decays inside a block is the weight. -/
theorem dec_val (lg : ℝ) (n p : Fin 256) :
    Scalar.select (FloatOps.cmpf (F := Ideal) (φ := .f32) .ole (ck p.val) (ck n.val))
      (Ideal.exp (((lg : ℝ) : EReal) * Scalar.select (FloatOps.cmpf (F := Ideal) (φ := .f32) .oeq (ck n.val) (ck p.val))
        (FloatOps.absf (F := Ideal) (φ := .f32) (ip n.val - ip p.val)) (ip n.val - ip p.val))) 0
      = ((wt lg n.val p.val : ℝ) : EReal) := by
  rw [ck_eq _ _ (by omega) (by omega), ck_le _ _ (by omega) (by omega), sel_val, sel_val,
    ip_val _ (by omega), ip_val _ (by omega), ← EReal.coe_sub, abs_val]
  unfold wt
  by_cases h : n.val / 64 = p.val / 64
  · rw [if_pos h, if_pos h, if_pos (by omega), ← EReal.coe_mul, Ideal.exp_coe]
  · rw [if_neg h, if_neg h, ← EReal.coe_mul, Ideal.exp_coe]
    by_cases h' : p.val / 64 < n.val / 64
    · rw [if_pos h', if_pos (by omega)]
    · rw [if_neg h', if_neg (by omega)]; rfl

/-- The reference's decay is the weight. -/
theorem decay_val (lg : ℝ) (n p : Fin 2048) :
    Scalar.select (IntOp.cmpi .eq (IntOp.divsi ArithUnit.host (BitVec.ofNat 32 n.val) 64#32) (IntOp.divsi ArithUnit.host (BitVec.ofNat 32 p.val) 64#32))
      (Ideal.exp (((lg : ℝ) : EReal) * FloatOps.absf (F := Ideal) (φ := .f32) (ip n.val - ip p.val)))
      (Scalar.select (IntOp.cmpi .slt (IntOp.divsi ArithUnit.host (BitVec.ofNat 32 p.val) 64#32) (IntOp.divsi ArithUnit.host (BitVec.ofNat 32 n.val) 64#32))
        (Ideal.exp (((lg : ℝ) : EReal) * (ip n.val - ip p.val))) 0)
      = ((wt lg n.val p.val : ℝ) : EReal) := by
  rw [chunk_val n, chunk_val p, eq_val ⟨n.val / 64, by omega⟩ ⟨p.val / 64, by omega⟩, lt_val ⟨p.val / 64, by omega⟩ ⟨n.val / 64, by omega⟩, sel_val, sel_val,
    ip_val _ (by omega), ip_val _ (by omega), ← EReal.coe_sub, abs_val]
  unfold wt
  dsimp only
  by_cases h : n.val / 64 = p.val / 64
  · rw [if_pos h, if_pos h, ← EReal.coe_mul, Ideal.exp_coe]
  · rw [if_neg h, if_neg h, ← EReal.coe_mul, Ideal.exp_coe]
    by_cases h' : p.val / 64 < n.val / 64
    · rw [if_pos h', if_pos h']
    · rw [if_neg h', if_neg h']; rfl

end Cert.Ret

end
-- ==== Proof.RetTab.lean ====
module

public import proofs.«01_k».proof.Proof.Gen.Kernel7Ideal.Frame
public import proofs.«01_k».proof.Proof.RetNum
public import proofs.«01_k».proof.Proof.RetVal
public import Idealize.ShloMosaic.Lib.Pipeline.ValueKit
public import Idealize.ShloMosaic.Lib.Pointwise
public import Idealize.ShloMosaic.Lib.Tactic
public import Idealize.ShloMosaic.Lib.StableHlo.Run
public import Idealize.ShloMosaic.Lib.StableHlo.ReadAt
public import Idealize.ShloMosaic.Lib.StableHlo.RunRead

@[expose] public section

set_option maxRecDepth 16384

noncomputable section

open Idealize.ShloMosaic Idealize.ShloMosaic.TcCoe Idealize.ShloMosaic.Tactic Idealize.SL.Sem
open Idealize.ShloMosaic.Pipeline (Dat)

namespace Cert.Kernel7Ideal.Ret

open Cert.Kernel7Ideal Cert.Kernel7Ideal.Gen

variable (m : (ℓ : Loc nD τ sig) → Buf (Elt Ideal) ℓ) (c : Dev nD) (t : Fin cfg0.N)

/-- The rows' angles of a sequence, cosines and sines. -/
theorem V_cos (n : Fin 2048) (j : Fin 128) : (show EReal from V m c main_v71 (ix2 n j)) = Ideal.cos (Cert.Ret.ang n.val j.val) := by
  unfold V
  after_reads_at
  pointwise
  rfl

theorem V_sin (n : Fin 2048) (j : Fin 128) : (show EReal from V m c main_v72 (ix2 n j)) = Ideal.sin (Cert.Ret.ang n.val j.val) := by
  unfold V
  after_reads_at
  pointwise
  rfl

theorem V_dec (h : Fin 8) (n p : Fin 256) (lg : ℝ) (hl : Cert.Ret.lgE h.val = (lg : EReal)) :
    (show EReal from V m c main_v50 (ix3 h n p)) = ((Cert.Ret.wt lg n.val p.val : ℝ) : EReal) := by
  refine Eq.trans ?_ (Cert.Ret.dec_val lg n p)
  rw [← hl]
  unfold V
  after_reads_at
  pointwise
  refine Eq.trans ?_ (congrArg (fun z : EReal => if Cert.Ret.ck p.val ≤ Cert.Ret.ck n.val then _ else z) Cert.Ret.c0)
  rfl

theorem V_qd (h : Fin 8) (n p : Fin 256) (lg : ℝ) (hl : Cert.Ret.lgE h.val = (lg : EReal)) :
    (show EReal from V m c main_v58 (ix3 h n p)) = ((Real.exp (lg * ((n.val : ℝ) + 1)) : ℝ) : EReal) := by
  rw [← Ideal.exp_coe, EReal.coe_mul, EReal.coe_add, ← hl, ← Cert.Ret.ip_val n.val (by omega)]
  unfold V
  after_reads_at
  pointwise
  rfl

theorem V_kd (h : Fin 8) (n p : Fin 256) (lg : ℝ) (hl : Cert.Ret.lgE h.val = (lg : EReal)) :
    (show EReal from V m c main_v66 (ix3 h n p)) = ((Real.exp (lg * (255 - (n.val : ℝ))) : ℝ) : EReal) := by
  rw [← Ideal.exp_coe, EReal.coe_mul, EReal.coe_sub, ← hl, ← Cert.Ret.ip_val n.val (by omega), ← Cert.Ret.c255]
  unfold V
  after_reads_at
  pointwise
  rfl

theorem V_cd (h : Fin 8) (e : Fin 512) (lg : ℝ) (hl : Cert.Ret.lgE h.val = (lg : EReal)) :
    (show EReal from V m c main_v70 (ix3 h 0 e)) = ((Real.exp (lg * 256) : ℝ) : EReal) := by
  rw [← Ideal.exp_coe, EReal.coe_mul, ← hl, ← Cert.Ret.c256]
  unfold V
  after_reads_at
  pointwise
  rfl

/-! ## The blocks a point reads -/

/-- The windows' blocks at each grid point. -/
theorem idx : ∀ t : Fin cfg0.N,
    win0_0.index t = ![t.val, 0]
    ∧ win0_1.index t = ![t.val, 1]
    ∧ win0_2.index t = ![t.val, 1]
    ∧ win0_3.index t = ![t.val, 2]
    ∧ win0_4.index t = ![t.val % 8, 0]
    ∧ win0_5.index t = ![t.val % 8, 0]
    ∧ win0_6.index t = ![0, 0, 0]
    ∧ win0_7.index t = ![0, 0, 0]
    ∧ win0_8.index t = ![0, 0, 0]
    ∧ win0_9.index t = ![0, 0, 0] :=
  (by decide +kernel : ∀ t : Fin grid0.N, _)

/-- Row `r` of point `t`'s block, in the array. -/
def rowOf (r : Fin 256) : Fin 8192 := ⟨256 * t.val + r.val, by have h : t.val < 32 := t.isLt; omega⟩
/-- Row `r` of point `t`'s block, in its sequence. -/
def seqOf (r : Fin 256) : Fin 2048 := ⟨256 * (t.val % 8) + r.val, by omega⟩

theorem read_q (r : Fin 256) (k : Fin 2048) : iblk m c 0 t (ix2 r k) = V m c main_arg0 (ix2 (rowOf t r) ⟨k.val, by omega⟩) := by
  unfold rowOf
  blk_ext [iblk, idx t]
theorem read_k (r : Fin 256) (k : Fin 2048) : iblk m c 1 t (ix2 r k) = V m c main_arg0 (ix2 (rowOf t r) ⟨2048 + k.val, by omega⟩) := by
  unfold rowOf
  blk_ext [iblk, idx t]
theorem read_v (r : Fin 256) (k : Fin 4096) : X0_2 m c t (ix2 r k) = V m c main_arg0 (ix2 (rowOf t r) ⟨4096 + k.val, by omega⟩) := by
  unfold X0_2 Pipeline.Window.fill
  refine (dif_pos (moved0_2 t _)).trans ?_
  unfold rowOf
  blk_ext [iblk, idx t]
theorem read_g (r : Fin 256) (k : Fin 4096) : X0_3 m c t (ix2 r k) = V m c main_arg0 (ix2 (rowOf t r) ⟨8192 + k.val, by omega⟩) := by
  unfold X0_3 Pipeline.Window.fill
  refine (dif_pos (moved0_3 t _)).trans ?_
  unfold rowOf
  blk_ext [iblk, idx t]
theorem read_c (r : Fin 256) (k : Fin 128) : iblk m c 4 t (ix2 r k) = V m c main_v71 (ix2 (seqOf t r) k) := by
  unfold seqOf
  blk_ext [iblk, idx t]
theorem read_s (r : Fin 256) (k : Fin 128) : iblk m c 5 t (ix2 r k) = V m c main_v72 (ix2 (seqOf t r) k) := by
  unfold seqOf
  blk_ext [iblk, idx t]
theorem read_dec (h : Fin 8) (r : Fin 256) (k : Fin 256) : iblk m c 6 t (ix3 h r k) = V m c main_v50 (ix3 h r k) := by
  blk_ext [iblk, idx t]
theorem read_qd (h : Fin 8) (r : Fin 256) (k : Fin 256) : iblk m c 7 t (ix3 h r k) = V m c main_v58 (ix3 h r k) := by
  blk_ext [iblk, idx t]
theorem read_kd (h : Fin 8) (r : Fin 256) (k : Fin 256) : iblk m c 8 t (ix3 h r k) = V m c main_v66 (ix3 h r k) := by
  blk_ext [iblk, idx t]
theorem read_cd (h : Fin 8) (k : Fin 512) : iblk m c 9 t (ix3 h 0 k) = V m c main_v70 (ix3 h 0 k) := by
  blk_ext [iblk, idx t]

end Cert.Kernel7Ideal.Ret

end
-- ==== Proof.RetModel.lean ====
module

public import proofs.«01_k».proof.Proof.RetVal
public import proofs.«01_k».proof.Proof.RetNum

@[expose] public section

set_option maxRecDepth 16384

noncomputable section

open Idealize.ShloMosaic Cert.Attn

namespace Cert.Ret

open Cert.Kernel7Ideal (S8192x26624)

/-- The cosine of a row's angle. -/
def cs (n : ℕ) (j : Fin 128) : EReal := Ideal.cos (ang n j.val)
/-- The sine of a row's angle. -/
def sn (n : ℕ) (j : Fin 128) : EReal := Ideal.sin (ang n j.val)

variable (x : FVec Ideal S8192x26624 .bf16)

/-- The turned queries of a head at row `T`, which is row `n` of its sequence. -/
def qr (T : Fin 8192) (n : ℕ) (h : Fin 8) : Fin 256 → EReal :=
  rot (fun d => x (ix2 T ⟨h.val * 256 + d.val, by omega⟩)) (cs n) (sn n)
/-- The turned and scaled keys of a head. -/
def kr (T : Fin 8192) (n : ℕ) (h : Fin 8) (d : Fin 256) : EReal :=
  rot (fun d => x (ix2 T ⟨2048 + (h.val * 256 + d.val), by omega⟩)) (cs n) (sn n) d * Ideal.ofBits .f32 0x3D800000#32
/-- The values of a head. -/
def vr (T : Fin 8192) (h : Fin 8) (e : Fin 512) : EReal := x (ix2 T ⟨4096 + (h.val * 512 + e.val), by omega⟩)

/-- The decay from row `m` to row `n`. -/
def dk (h n m : ℕ) : EReal :=
  Scalar.select (IntOp.cmpi .eq (IntOp.divsi ArithUnit.host (BitVec.ofNat 32 n) 64#32) (IntOp.divsi ArithUnit.host (BitVec.ofNat 32 m) 64#32))
      (Ideal.exp (lgE h * FloatOps.absf (F := Ideal) (φ := .f32) (ip n - ip m)))
      (Scalar.select (IntOp.cmpi .slt (IntOp.divsi ArithUnit.host (BitVec.ofNat 32 m) 64#32) (IntOp.divsi ArithUnit.host (BitVec.ofNat 32 n) 64#32))
        (Ideal.exp (lgE h * (ip n - ip m))) (Ideal.ofBits .f32 0#32))

/-- Row `m` of the sequence that row `T` is in. -/
def rowAt (T : Fin 8192) (m : Fin 2048) : Fin 8192 := ⟨T.val / 2048 * 2048 + m.val, by omega⟩

/-- The mixed values of a head at row `T`. -/
def mixE (T : Fin 8192) (h : Fin 8) (e : Fin 512) : EReal :=
  ∑ m : Fin 2048, (∑ d, qr x T (T.val % 2048) h d * kr x (rowAt T m) m.val h d) * dk h.val (T.val % 2048) m.val * vr x (rowAt T m) h e

/-- The retention's output at row `T`, channel `L`. -/
def out (T : Fin 8192) (L : Fin 4096) : EReal :=
  fin (x (ix2 T ⟨8192 + L.val, by omega⟩)) (mixE x T ⟨L.val / 512, by omega⟩) ⟨L.val % 512, by omega⟩

theorem vr_lane (T : Fin 8192) (L : Fin 4096) : vr x T ⟨L.val / 512, by omega⟩ ⟨L.val % 512, by omega⟩ = x (ix2 T ⟨4096 + L.val, by omega⟩) := by
  unfold vr
  have e : (⟨4096 + (L.val / 512 * 512 + L.val % 512), by omega⟩ : Fin 26624) = ⟨4096 + L.val, by omega⟩ := Fin.ext (by dsimp only; omega)
  exact congrArg (fun i => x (ix2 T i)) e

theorem rot_dot (x y : Fin 256 → EReal) (c s c' s' : Fin 128 → EReal) (w : EReal) :
    ∑ d : Fin 256, rot x c s d * (rot y c' s' d * w)
      = (∑ j : Fin 128, (x ⟨j.val, by omega⟩ * c j - x ⟨128 + j.val, by omega⟩ * s j) * ((y ⟨j.val, by omega⟩ * c' j - y ⟨128 + j.val, by omega⟩ * s' j) * w))
        + ∑ j : Fin 128, (x ⟨j.val, by omega⟩ * s j + x ⟨128 + j.val, by omega⟩ * c j) * ((y ⟨j.val, by omega⟩ * s' j + y ⟨128 + j.val, by omega⟩ * c' j) * w) := by
  rw [show (∑ d : Fin 256, rot x c s d * (rot y c' s' d * w)) = ∑ d : Fin (128 + 128), rot x c s d * (rot y c' s' d * w) from rfl, Fin.sum_univ_add]
  refine congrArg₂ (fun a b : EReal => a + b) (Finset.sum_congr rfl fun j _ => ?_) (Finset.sum_congr rfl fun j _ => ?_)
  · have h : (Fin.castAdd 128 j).val < 128 := j.isLt
    unfold rot
    rw [dif_pos h, dif_pos h]
    simp only [Fin.val_castAdd, Nat.add_comm]
    rfl
  · have h : ¬ (Fin.natAdd 128 j).val < 128 := by simp
    unfold rot
    rw [dif_neg h, dif_neg h]
    simp only [Fin.val_natAdd, Nat.add_sub_cancel_left]
    rfl

end Cert.Ret

end
-- ==== Proof.RetReal.lean ====
module

public import proofs.«01_k».proof.Proof.RetModel

@[expose] public section

set_option maxRecDepth 16384

noncomputable section

open Idealize.ShloMosaic Cert.Attn

namespace Cert.Ret

open Cert.Kernel7Ideal (S8192x26624 S256x2048 S256x4096 S256x128 S8x256x256 S8x1x512 S8x256x512)
open Cert.Kernel7Ideal.Ret (cq cv stVal mixVal)

theorem real_coe {a : EReal} (h : IsReal a) : a = ((a.toReal : ℝ) : EReal) := by
  obtain ⟨r, rfl⟩ := h; rw [EReal.toReal_coe]

/-- Row `n` of sequence `b`. -/
def row (b : Fin 4) (n : Fin 2048) : Fin 8192 := ⟨2048 * b.val + n.val, by omega⟩

/-- Row `r` of block `B` of a sequence. -/
def blkRow (B : Fin 8) (r : Fin 256) : Fin 2048 := ⟨256 * B.val + r.val, by omega⟩

variable (x : FVec Ideal S8192x26624 .bf16) (hx : ∀ i, IsReal (x i))

/-- The turned query as a number. -/
def qR (b : Fin 4) (h : Fin 8) (n : Fin 2048) (d : Fin 256) : ℝ := (qr x (row b n) n.val h d).toReal
/-- The turned and scaled key as a number. -/
def kR (b : Fin 4) (h : Fin 8) (n : ℕ) (d : Fin 256) : ℝ :=
  if hn : n < 2048 then (kr x (row b ⟨n, hn⟩) n h d).toReal else 0
/-- The value as a number. -/
def vR (b : Fin 4) (h : Fin 8) (e : Fin 512) (n : ℕ) : ℝ :=
  if hn : n < 2048 then (vr x (row b ⟨n, hn⟩) h e).toReal else 0

include hx in
theorem rot_row_real (f : Fin 256 → S8192x26624.Idx) (n : ℕ) (hn : n < 2048) (d : Fin 256) : IsReal (rot (fun d => x (f d)) (cs n) (sn n) d) :=
  rot_real _ _ _ (fun d => hx _) (fun j => cos_real (ang_real n j.val (by omega) (by omega))) (fun j => sin_real (ang_real n j.val (by omega) (by omega))) d

include hx in
theorem qR_eq (b : Fin 4) (h : Fin 8) (n : Fin 2048) (d : Fin 256) : qr x (row b n) n.val h d = ((qR x b h n d : ℝ) : EReal) :=
  real_coe (rot_row_real x hx _ n.val n.isLt d)
include hx in
theorem kR_eq (b : Fin 4) (h : Fin 8) (n : Fin 2048) (d : Fin 256) : kr x (row b n) n.val h d = ((kR x b h n.val d : ℝ) : EReal) := by
  unfold kR
  rw [dif_pos n.isLt]
  exact real_coe ((rot_row_real x hx _ n.val n.isLt d).mul c16)
include hx in
theorem vR_eq (b : Fin 4) (h : Fin 8) (n : Fin 2048) (e : Fin 512) : vr x (row b n) h e = ((vR x b h e n.val : ℝ) : EReal) := by
  unfold vR
  rw [dif_pos n.isLt]
  exact real_coe (hx _)

theorem dk_eq (h : ℕ) (lg : ℝ) (hl : lgE h = (lg : EReal)) (n m : Fin 2048) : dk h n.val m.val = ((wt lg n.val m.val : ℝ) : EReal) := by
  unfold dk
  rw [c0, hl]
  exact decay_val lg n m

include hx in
/-- The mixed values are those of the numbers. -/
theorem mixE_eq (b : Fin 4) (h : Fin 8) (lg : ℝ) (hl : lgE h.val = (lg : EReal)) (n : Fin 2048) (e : Fin 512) :
    mixE x (row b n) h e = ((∑ m : Fin 2048, (∑ d, qR x b h n d * kR x b h m.val d) * wt lg n.val m.val * vR x b h e m.val : ℝ) : EReal) := by
  unfold mixE
  have e1 : (row b n).val % 2048 = n.val := by unfold row; dsimp only; omega
  have e2 : ∀ m, rowAt (row b n) m = row b m := fun m => Fin.ext (by unfold rowAt row; dsimp only; omega)
  rw [e1, coe_sum]
  refine Finset.sum_congr rfl fun m _ => ?_
  rw [e2, dk_eq h.val lg hl, vR_eq x hx, EReal.coe_mul, EReal.coe_mul, coe_sum]
  simp only [qR_eq x hx, kR_eq x hx, EReal.coe_mul]

/-- The queries' columns of the projection. -/
def qcol (k : Fin 2048) : Fin 26624 := ⟨k.val, by omega⟩
/-- The keys' columns. -/
def kcol (k : Fin 2048) : Fin 26624 := ⟨2048 + k.val, by omega⟩
/-- The values' columns. -/
def vcol (k : Fin 4096) : Fin 26624 := ⟨4096 + k.val, by omega⟩

section Step
variable (b : Fin 4) (B : Fin 8) (x0 x1 : Vec Ideal S256x2048 .bf16) (x2 : Vec Ideal S256x4096 .bf16) (x4 x5 : Vec Ideal S256x128 .f32) (x6 x7 x8 : Vec Ideal S8x256x256 .f32) (x9 : Vec Ideal S8x1x512 .f32) (s : Vec Ideal S8x256x512 .f32)
  (h0 : ∀ (r : Fin 256) (k : Fin 2048), x0 (ix2 r k) = x (ix2 (row b (blkRow B r)) (qcol k)))
  (h1 : ∀ (r : Fin 256) (k : Fin 2048), x1 (ix2 r k) = x (ix2 (row b (blkRow B r)) (kcol k)))
  (h2 : ∀ (r : Fin 256) (k : Fin 4096), x2 (ix2 r k) = x (ix2 (row b (blkRow B r)) (vcol k)))
  (h4 : ∀ (r : Fin 256) (j : Fin 128), x4 (ix2 r j) = cs (blkRow B r).val j)
  (h5 : ∀ (r : Fin 256) (j : Fin 128), x5 (ix2 r j) = sn (blkRow B r).val j)

include h0 h4 h5 in
theorem turn_q (h : Fin 8) (r d : Fin 256) :
    rot (fun d => x0 (ix2 r (cq h d))) (fun j => x4 (ix2 r j)) (fun j => x5 (ix2 r j)) d = qr x (row b (blkRow B r)) (blkRow B r).val h d := by
  unfold qr
  have e : (fun d => x0 (ix2 r (cq h d))) = fun d : Fin 256 => x (ix2 (row b (blkRow B r)) ⟨h.val * 256 + d.val, by omega⟩) := funext fun d => by
    rw [h0]
    exact congrArg (fun i => x (ix2 _ i)) (Fin.ext (by unfold qcol cq; dsimp only; omega))
  rw [e, funext (h4 r), funext (h5 r)]

include h1 h4 h5 in
theorem turn_k (h : Fin 8) (r d : Fin 256) :
    rot (fun d => x1 (ix2 r (cq h d))) (fun j => x4 (ix2 r j)) (fun j => x5 (ix2 r j)) d * Ideal.ofBits .f32 0x3D800000#32 = kr x (row b (blkRow B r)) (blkRow B r).val h d := by
  unfold kr
  have e : (fun d => x1 (ix2 r (cq h d))) = fun d : Fin 256 => x (ix2 (row b (blkRow B r)) ⟨2048 + (h.val * 256 + d.val), by omega⟩) := funext fun d => by
    rw [h1]
    exact congrArg (fun i => x (ix2 _ i)) (Fin.ext (by unfold kcol cq; dsimp only; omega))
  rw [e, funext (h4 r), funext (h5 r)]

include h2 in
theorem take_v (h : Fin 8) (r : Fin 256) (e : Fin 512) : x2 (ix2 r (cv h e)) = vr x (row b (blkRow B r)) h e := by
  rw [h2]
  unfold vr
  exact congrArg (fun i => x (ix2 _ i)) (Fin.ext (by unfold vcol cv; dsimp only; omega))

include hx h1 h2 h4 h5 in
/-- A point takes the state on by its block. -/
theorem st_step (h : Fin 8) (lg : ℝ) (d : Fin 256) (e : Fin 512)
    (h8 : ∀ p : Fin 256, x8 (ix3 h p d) = ((Real.exp (lg * (255 - (p.val : ℝ))) : ℝ) : EReal))
    (h9 : x9 (ix3 h 0 e) = ((Real.exp (lg * 256) : ℝ) : EReal))
    (hs : s (ix3 h d e) = ((st lg (kR x b h) (vR x b h e) B.val d : ℝ) : EReal)) :
    stVal x1 x2 x4 x5 x8 x9 s h d e = ((st lg (kR x b h) (vR x b h e) (B.val + 1) d : ℝ) : EReal) := by
  unfold stVal
  rw [st_succ, EReal.coe_add, EReal.coe_mul, hs, h9, coe_sum]
  congr 1
  refine Finset.sum_congr rfl fun p _ => ?_
  rw [turn_k x b B x1 x4 x5 h1 h4 h5, take_v x b B x2 h2, h8, kR_eq x hx, vR_eq x hx, ← EReal.coe_mul, ← EReal.coe_mul]
  rfl

include hx h0 h1 h2 h4 h5 in
/-- A point's mixed values are those over the whole sequence. -/
theorem mix_step (h : Fin 8) (lg : ℝ) (hl : lgE h.val = (lg : EReal)) (r : Fin 256) (e : Fin 512)
    (h6 : ∀ p : Fin 256, x6 (ix3 h r p) = ((wt lg r.val p.val : ℝ) : EReal))
    (h7 : ∀ d : Fin 256, x7 (ix3 h r d) = ((Real.exp (lg * ((r.val : ℝ) + 1)) : ℝ) : EReal))
    (hs : ∀ d, s (ix3 h d e) = ((st lg (kR x b h) (vR x b h e) B.val d : ℝ) : EReal)) :
    mixVal x0 x1 x2 x4 x5 x6 x7 s h r e = mixE x (row b (blkRow B r)) h e := by
  rw [mixE_eq x hx b h lg hl, show (blkRow B r).val = 256 * B.val + r.val from rfl, ← out_eq lg (qR x b h (blkRow B r)) (kR x b h) (vR x b h e) B.val r.val B.isLt r.isLt]
  unfold mixVal
  rw [EReal.coe_add, coe_sum, coe_sum]
  congr 1
  · refine Finset.sum_congr rfl fun p _ => ?_
    rw [take_v x b B x2 h2, h6, vR_eq x hx, EReal.coe_mul, EReal.coe_mul, coe_sum]
    simp only [turn_q x b B x0 x4 x5 h0 h4 h5, turn_k x b B x1 x4 x5 h1 h4 h5, qR_eq x hx, kR_eq x hx, EReal.coe_mul]
    rfl
  · refine Finset.sum_congr rfl fun d _ => ?_
    rw [turn_q x b B x0 x4 x5 h0 h4 h5, h7, hs, qR_eq x hx, ← EReal.coe_mul, ← EReal.coe_mul]

end Step

end Cert.Ret

end
-- ==== Proof.RetRun.lean ====
module

public import proofs.«01_k».proof.Proof.Gen.Kernel7Ideal.Value
public import proofs.«01_k».proof.Proof.RetPoint
public import proofs.«01_k».proof.Proof.RetTab
public import proofs.«01_k».proof.Proof.RetReal

@[expose] public section

set_option maxRecDepth 16384

noncomputable section

open Idealize.ShloMosaic Idealize.ShloMosaic.TcCoe Idealize.ShloMosaic.Tactic Idealize.SL.Sem
open Cert.Attn (IsReal)
open Cert.Ret (row blkRow kR vR qR st mixE lgE cs sn)

namespace Cert.Kernel7Ideal.Ret

open Cert.Kernel7Ideal Cert.Kernel7Ideal.Gen

variable (m : (ℓ : Loc nD τ sig) → Buf (Elt Ideal) ℓ) (c : Dev nD) (t : Fin cfg0.N)

/-- The projected rows, as launched. -/
def X : FVec Ideal S8192x26624 .bf16 := m ((c.tc : Thread nD τ).loc main_arg0)

/-- The sequence of a point. -/
def sq : Fin 4 := ⟨t.val / 8, by have h : t.val < 32 := t.isLt; omega⟩
/-- The block of a point in its sequence. -/
def bk : Fin 8 := ⟨t.val % 8, by omega⟩

theorem rowOf_eq (r : Fin 256) : rowOf t r = row (sq t) (blkRow (bk t) r) :=
  Fin.ext (by unfold rowOf row blkRow sq bk; dsimp only; omega)

theorem arg_eq (i : S8192x26624.Idx) : (show EReal from V m c main_arg0 i) = X m c i := congrFun (V_main_arg0 m c) i

theorem in_q (r : Fin 256) (k : Fin 2048) : (iblk m c 0 t : Vec Ideal S256x2048 .bf16) (ix2 r k) = X m c (ix2 (row (sq t) (blkRow (bk t) r)) ⟨k.val, by omega⟩) :=
  (read_q m c t r k).trans ((arg_eq m c _).trans (by rw [rowOf_eq]))
theorem in_k (r : Fin 256) (k : Fin 2048) : (iblk m c 1 t : Vec Ideal S256x2048 .bf16) (ix2 r k) = X m c (ix2 (row (sq t) (blkRow (bk t) r)) ⟨2048 + k.val, by omega⟩) :=
  (read_k m c t r k).trans ((arg_eq m c _).trans (by rw [rowOf_eq]))
theorem in_v (r : Fin 256) (k : Fin 4096) : (X0_2 m c t : Vec Ideal S256x4096 .bf16) (ix2 r k) = X m c (ix2 (row (sq t) (blkRow (bk t) r)) ⟨4096 + k.val, by omega⟩) :=
  (read_v m c t r k).trans ((arg_eq m c _).trans (by rw [rowOf_eq]))
theorem in_g (r : Fin 256) (k : Fin 4096) : (X0_3 m c t : Vec Ideal S256x4096 .bf16) (ix2 r k) = X m c (ix2 (row (sq t) (blkRow (bk t) r)) ⟨8192 + k.val, by omega⟩) :=
  (read_g m c t r k).trans ((arg_eq m c _).trans (by rw [rowOf_eq]))
theorem in_c (r : Fin 256) (j : Fin 128) : (iblk m c 4 t : Vec Ideal S256x128 .f32) (ix2 r j) = cs (blkRow (bk t) r).val j :=
  (read_c m c t r j).trans (V_cos m c (seqOf t r) j)
theorem in_s (r : Fin 256) (j : Fin 128) : (iblk m c 5 t : Vec Ideal S256x128 .f32) (ix2 r j) = sn (blkRow (bk t) r).val j :=
  (read_s m c t r j).trans (V_sin m c (seqOf t r) j)

section Tables
variable (h : Fin 8) (lg : ℝ) (hl : lgE h.val = (lg : EReal))
include hl
theorem in_dec (r p : Fin 256) : (iblk m c 6 t : Vec Ideal S8x256x256 .f32) (ix3 h r p) = ((Cert.Ret.wt lg r.val p.val : ℝ) : EReal) :=
  (read_dec m c t h r p).trans (V_dec m c h r p lg hl)
theorem in_qd (r p : Fin 256) : (iblk m c 7 t : Vec Ideal S8x256x256 .f32) (ix3 h r p) = ((Real.exp (lg * ((r.val : ℝ) + 1)) : ℝ) : EReal) :=
  (read_qd m c t h r p).trans (V_qd m c h r p lg hl)
theorem in_kd (r p : Fin 256) : (iblk m c 8 t : Vec Ideal S8x256x256 .f32) (ix3 h r p) = ((Real.exp (lg * (255 - (r.val : ℝ))) : ℝ) : EReal) :=
  (read_kd m c t h r p).trans (V_kd m c h r p lg hl)
theorem in_cd (e : Fin 512) : (iblk m c 9 t : Vec Ideal S8x1x512 .f32) (ix3 h 0 e) = ((Real.exp (lg * 256) : ℝ) : EReal) :=
  (read_cd m c t h e).trans (V_cd m c h e lg hl)
end Tables

variable (hx : ∀ i, IsReal (X m c i))

/-- The state a point starts from. -/
def StateAt (B : ℕ) (s : Vec Ideal S8x256x512 .f32) : Prop :=
  ∀ (h : Fin 8) (lg : ℝ) (d : Fin 256) (e : Fin 512), lgE h.val = (lg : EReal) → s (ix3 h d e) = ((st lg (kR (X m c) (sq t) h) (vR (X m c) (sq t) h e) B d : ℝ) : EReal)

theorem state_zero : StateAt m c t 0 (k0_pay2 (F := Ideal)) := fun h lg d e _ => by
  rw [Cert.Ret.st_zero, EReal.coe_zero]
  exact zero_at h d e

include hx in
theorem state_step (s : Vec Ideal S8x256x512 .f32) (hs : StateAt m c t (bk t).val s) (s' : Vec Ideal S8x256x512 .f32)
    (he : ∀ h d e, s' (ix3 h d e) = stVal (iblk m c 1 t) (X0_2 m c t) (iblk m c 4 t) (iblk m c 5 t) (iblk m c 8 t) (iblk m c 9 t) s h d e) :
    StateAt m c t ((bk t).val + 1) s' := fun h lg d e hl =>
  (he h d e).trans (Cert.Ret.st_step (X m c) hx (sq t) (bk t) _ _ _ _ _ _ s (in_k m c t) (in_v m c t) (in_c m c t) (in_s m c t) h lg d e
    (fun p => in_kd m c t h lg hl p d) (in_cd m c t h lg hl e) (hs h lg d e hl))

include hx in
theorem out_step (s : Vec Ideal S8x256x512 .f32) (hs : StateAt m c t (bk t).val s) (h : Fin 8) (r : Fin 256) (e : Fin 512) :
    Cert.Ret.fin ((X0_3 m c t : Vec Ideal S256x4096 .bf16) (ix2 r (cv h e))) (mixVal (iblk m c 0 t) (iblk m c 1 t) (X0_2 m c t) (iblk m c 4 t) (iblk m c 5 t) (iblk m c 6 t) (iblk m c 7 t) s h r) e
      = Cert.Ret.out (X m c) (rowOf t r) (cv h e) := by
  obtain ⟨lg, hl⟩ := Cert.Ret.lgE_real h.val h.isLt
  have e1 : mixVal (iblk m c 0 t) (iblk m c 1 t) (X0_2 m c t) (iblk m c 4 t) (iblk m c 5 t) (iblk m c 6 t) (iblk m c 7 t) s h r = mixE (X m c) (rowOf t r) h := by
    refine funext fun e => ?_
    rw [rowOf_eq]
    exact Cert.Ret.mix_step (X m c) hx (sq t) (bk t) _ _ _ _ _ _ _ s (in_q m c t) (in_k m c t) (in_v m c t) (in_c m c t) (in_s m c t) h lg hl r e
      (fun p => in_dec m c t h lg hl r p) (fun d => in_qd m c t h lg hl r d) (fun d => hs h lg d e hl)
  rw [e1, in_g, ← rowOf_eq]
  unfold Cert.Ret.out
  have e2 : (⟨(cv h e).val / 512, by have := (cv h e).isLt; omega⟩ : Fin 8) = h := Fin.ext (by have := e.isLt; show (512 * h.val + e.val) / 512 = h.val; omega)
  have e3 : (⟨(cv h e).val % 512, by omega⟩ : Fin 512) = e := Fin.ext (by have := e.isLt; show (512 * h.val + e.val) % 512 = e.val; omega)
  rw [e2, e3]

/-- What a point leaves: the state taken on, and the retention's outputs of its rows. -/
def Leaves : Prop :=
  StateAt m c t ((bk t).val + 1) (outsAt0 m c t.val t.isLt).2
    ∧ ∀ (h : Fin 8) (r : Fin 256) (e : Fin 512), (outsAt0 m c t.val t.isLt).1 (ix2 r (cv h e)) = Cert.Ret.out (X m c) (rowOf t r) (cv h e)

include hx in
theorem leaves_first (h0 : t.val % 8 = 0) : Leaves m c t := by
  have hs : StateAt m c t (bk t).val (k0_pay2 (F := Ideal)) := by
    rw [show (bk t).val = 0 from h0]; exact state_zero m c t
  unfold Leaves
  rw [outsAt0_A m c t h0]
  dsimp only
  refine ⟨state_step m c t hx _ hs _ fun h d e => sout_A_at .., fun h r e => ?_⟩
  exact (out_A_at ..).trans (out_step m c t hx _ hs h r e)

include hx in
theorem leaves_later (h0 : ¬ t.val % 8 = 0) (hs : StateAt m c t (bk t).val (outsAt0 m c (t.val - 1) (Nat.lt_of_le_of_lt (Nat.sub_le _ _) t.isLt)).2) : Leaves m c t := by
  unfold Leaves
  rw [outsAt0_B m c t h0]
  dsimp only
  refine ⟨state_step m c t hx _ hs _ fun h d e => sout_B_at .., fun h r e => ?_⟩
  exact (out_B_at ..).trans (out_step m c t hx _ hs h r e)

include hx in
theorem leaves : ∀ (n : ℕ) (hn : n < cfg0.N), Leaves m c ⟨n, hn⟩
  | 0, hn => leaves_first m c ⟨0, hn⟩ hx rfl
  | n + 1, hn => by
    by_cases h0 : (n + 1) % 8 = 0
    · exact leaves_first m c ⟨n + 1, hn⟩ hx h0
    · have hp := (leaves n (Nat.lt_of_succ_lt hn)).1
      refine leaves_later m c ⟨n + 1, hn⟩ hx h0 ?_
      have e1 : sq ⟨n + 1, hn⟩ = sq ⟨n, Nat.lt_of_succ_lt hn⟩ := Fin.ext (by unfold sq; dsimp only; omega)
      have e2 : (bk ⟨n + 1, hn⟩).val = (bk ⟨n, Nat.lt_of_succ_lt hn⟩).val + 1 := by unfold bk; dsimp only; omega
      unfold StateAt at hp ⊢
      rw [e1, e2]
      exact hp

include hx in
/-- The array the launch leaves is the retention of its argument. -/
theorem arr (T : Fin 8192) (L : Fin 4096) : (show EReal from Value.G10 m c (ix2 T L)) = Cert.Ret.out (X m c) T L := by
  have hT : T.val / 256 < cfg0.N := by show T.val / 256 < 32; omega
  have h := (leaves m c hx (T.val / 256) hT).2 ⟨L.val / 512, by omega⟩ ⟨T.val % 256, by omega⟩ ⟨L.val % 512, by omega⟩
  have e1 : cv ⟨L.val / 512, by omega⟩ ⟨L.val % 512, by omega⟩ = L := Fin.ext (by unfold cv; dsimp only; omega)
  have e2 : rowOf ⟨T.val / 256, hT⟩ ⟨T.val % 256, by omega⟩ = T := Fin.ext (by unfold rowOf; dsimp only; omega)
  rw [e1, e2] at h
  refine Eq.trans ?_ h
  have ep : Value.pt10Of (ix2 T L : S8192x4096.Idx) = T.val / 256 := by
    show 1 * (T.val / 256 - 0) + 1 * (L.val / 4096 - 0) = T.val / 256
    omega
  have el : Value.loc10Of (ix2 T L : S8192x4096.Idx) = ix2 ⟨T.val % 256, by omega⟩ L :=
    funext (Fin.forall_fin_two.mpr ⟨Fin.ext rfl, Fin.ext (by show L.val % 4096 = L.val; omega)⟩)
  have hp : Value.pt10Of (ix2 T L : S8192x4096.Idx) < cfg0.N := ep ▸ hT
  show Value.G10 m c (ix2 T L : S8192x4096.Idx) = _
  unfold Value.G10
  rw [dif_pos hp, ← Value.outsAt0_sweep m c _ hp, el]
  have key : ∀ (a b : ℕ) (ha : a < cfg0.N) (hb : b < cfg0.N), a = b → outsAt0 m c a ha = outsAt0 m c b hb := by
    intro a b ha hb hab; subst hab; rfl
  rw [key _ _ hp hT ep]

end Cert.Kernel7Ideal.Ret

end
-- ==== Proof.RetRef.lean ====
module

public import proofs.«01_k».proof.Proof.Gen.Reference7Ideal.Run
public import proofs.«01_k».proof.Proof.RetModel

@[expose] public section

set_option maxRecDepth 16384
set_option maxHeartbeats 2000000

noncomputable section

open Idealize.ShloMosaic Idealize.ShloMosaic.TcCoe Idealize.ShloMosaic.Tactic Idealize.SL.Sem

namespace Cert.Reference7Ideal.Ret

open Cert.Reference7Ideal Cert.Reference7Ideal.Gen

theorem res_at (x : FVec Ideal S8192x26624 .bf16) (T : Fin 8192) (L : Fin 4096) :
    (truncf .bf16 (mulf (mulf (extf .f32 (extractStridedSlice S8192x4096 ![0, 8192] x slices_S8192x26624_S8192x4096_0_8192) bitsLt_bf16_f32) (Host.divf (broadcastInDim S8192x4096 ![] bcast_S_S8192x4096 (constant S_ .f32 0x3F800000#32)) (addf (broadcastInDim S8192x4096 ![] bcast_S_S8192x4096 (constant S_ .f32 0x3F800000#32)) (Host.exp (Host.negf (extf .f32 (extractStridedSlice S8192x4096 ![0, 8192] x slices_S8192x26624_S8192x4096_0_8192) bitsLt_bf16_f32)))))) (shapeCast _ (mulf (transpose S4x2048x8x512 [0, 2, 1, 3] (Host.dotGeneral dot_S4x8x2048x2048_S4x2048x8x512_S4x8x2048x512_3_1_2_3_01_02 none (mulf (Host.dotGeneral dot_S4x2048x8x256_S4x2048x8x256_S4x8x2048x2048_3_3_1_1_02_02 none (concatenate S4x2048x8x256 3 [⟨S4x2048x8x128, (subf (mulf (extractStridedSlice S4x2048x8x128 ![0, 0, 0, 0] (shapeCast _ (extf .f32 (extractStridedSlice S8192x2048 ![0, 0] x slices_S8192x26624_S8192x2048_0_0) bitsLt_bf16_f32) shapeCasts_S8192x2048_S4x2048x8x256) slices_S4x2048x8x256_S4x2048x8x128_0_0_0_0) (broadcastInDim S4x2048x8x128 ![0, 1, 2, 3] bcast_S1x2048x1x128_S4x2048x8x128_0_1_2_3 (broadcastInDim S1x2048x1x128 ![1, 3] bcast_S2048x128_S1x2048x1x128_1_3 (Host.cos (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))) (mulf (extractStridedSlice S4x2048x8x128 ![0, 0, 0, 128] (shapeCast _ (extf .f32 (extractStridedSlice S8192x2048 ![0, 0] x slices_S8192x26624_S8192x2048_0_0) bitsLt_bf16_f32) shapeCasts_S8192x2048_S4x2048x8x256) slices_S4x2048x8x256_S4x2048x8x128_0_0_0_128) (broadcastInDim S4x2048x8x128 ![0, 1, 2, 3] bcast_S1x2048x1x128_S4x2048x8x128_0_1_2_3 (broadcastInDim S1x2048x1x128 ![1, 3] bcast_S2048x128_S1x2048x1x128_1_3 (Host.sin (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))))⟩, ⟨S4x2048x8x128, (addf (mulf (extractStridedSlice S4x2048x8x128 ![0, 0, 0, 0] (shapeCast _ (extf .f32 (extractStridedSlice S8192x2048 ![0, 0] x slices_S8192x26624_S8192x2048_0_0) bitsLt_bf16_f32) shapeCasts_S8192x2048_S4x2048x8x256) slices_S4x2048x8x256_S4x2048x8x128_0_0_0_0) (broadcastInDim S4x2048x8x128 ![0, 1, 2, 3] bcast_S1x2048x1x128_S4x2048x8x128_0_1_2_3 (broadcastInDim S1x2048x1x128 ![1, 3] bcast_S2048x128_S1x2048x1x128_1_3 (Host.sin (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))) (mulf (extractStridedSlice S4x2048x8x128 ![0, 0, 0, 128] (shapeCast _ (extf .f32 (extractStridedSlice S8192x2048 ![0, 0] x slices_S8192x26624_S8192x2048_0_0) bitsLt_bf16_f32) shapeCasts_S8192x2048_S4x2048x8x256) slices_S4x2048x8x256_S4x2048x8x128_0_0_0_128) (broadcastInDim S4x2048x8x128 ![0, 1, 2, 3] bcast_S1x2048x1x128_S4x2048x8x128_0_1_2_3 (broadcastInDim S1x2048x1x128 ![1, 3] bcast_S2048x128_S1x2048x1x128_1_3 (Host.cos (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))))⟩] concatenates_S4x2048x8x128_S4x2048x8x128_S4x2048x8x256_d3) (mulf (concatenate S4x2048x8x256 3 [⟨S4x2048x8x128, (subf (mulf (extractStridedSlice S4x2048x8x128 ![0, 0, 0, 0] (shapeCast _ (extf .f32 (extractStridedSlice S8192x2048 ![0, 2048] x slices_S8192x26624_S8192x2048_0_2048) bitsLt_bf16_f32) shapeCasts_S8192x2048_S4x2048x8x256) slices_S4x2048x8x256_S4x2048x8x128_0_0_0_0) (broadcastInDim S4x2048x8x128 ![0, 1, 2, 3] bcast_S1x2048x1x128_S4x2048x8x128_0_1_2_3 (broadcastInDim S1x2048x1x128 ![1, 3] bcast_S2048x128_S1x2048x1x128_1_3 (Host.cos (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))) (mulf (extractStridedSlice S4x2048x8x128 ![0, 0, 0, 128] (shapeCast _ (extf .f32 (extractStridedSlice S8192x2048 ![0, 2048] x slices_S8192x26624_S8192x2048_0_2048) bitsLt_bf16_f32) shapeCasts_S8192x2048_S4x2048x8x256) slices_S4x2048x8x256_S4x2048x8x128_0_0_0_128) (broadcastInDim S4x2048x8x128 ![0, 1, 2, 3] bcast_S1x2048x1x128_S4x2048x8x128_0_1_2_3 (broadcastInDim S1x2048x1x128 ![1, 3] bcast_S2048x128_S1x2048x1x128_1_3 (Host.sin (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))))⟩, ⟨S4x2048x8x128, (addf (mulf (extractStridedSlice S4x2048x8x128 ![0, 0, 0, 0] (shapeCast _ (extf .f32 (extractStridedSlice S8192x2048 ![0, 2048] x slices_S8192x26624_S8192x2048_0_2048) bitsLt_bf16_f32) shapeCasts_S8192x2048_S4x2048x8x256) slices_S4x2048x8x256_S4x2048x8x128_0_0_0_0) (broadcastInDim S4x2048x8x128 ![0, 1, 2, 3] bcast_S1x2048x1x128_S4x2048x8x128_0_1_2_3 (broadcastInDim S1x2048x1x128 ![1, 3] bcast_S2048x128_S1x2048x1x128_1_3 (Host.sin (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))) (mulf (extractStridedSlice S4x2048x8x128 ![0, 0, 0, 128] (shapeCast _ (extf .f32 (extractStridedSlice S8192x2048 ![0, 2048] x slices_S8192x26624_S8192x2048_0_2048) bitsLt_bf16_f32) shapeCasts_S8192x2048_S4x2048x8x256) slices_S4x2048x8x256_S4x2048x8x128_0_0_0_128) (broadcastInDim S4x2048x8x128 ![0, 1, 2, 3] bcast_S1x2048x1x128_S4x2048x8x128_0_1_2_3 (broadcastInDim S1x2048x1x128 ![1, 3] bcast_S2048x128_S1x2048x1x128_1_3 (Host.cos (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))))⟩] concatenates_S4x2048x8x128_S4x2048x8x128_S4x2048x8x256_d3) (broadcastInDim S4x2048x8x256 ![] bcast_S_S4x2048x8x256 (constant S_ .f32 0x3D800000#32)))) (broadcastInDim S4x8x2048x2048 ![0, 1, 2, 3] bcast_S1x8x2048x2048_S4x8x2048x2048_0_1_2_3 (broadcastInDim S1x8x2048x2048 ![1, 2, 3] bcast_S8x2048x2048_S1x8x2048x2048_1_2_3 (select (broadcastInDim S8x2048x2048 ![1, 2] bcast_S2048x2048_S8x2048x2048_1_2 (cmpi .eq (broadcastInDim S2048x2048 ![0, 1] bcast_S2048x1_S2048x2048_0_1 (broadcastInDim S2048x1 ![0] bcast_S2048_S2048x1_0 (Host.divsi (iotaInDim S2048 32 0) (broadcastInDim S2048 ![] bcast_S_S2048 (constantI S_ 32 64#32))))) (broadcastInDim S2048x2048 ![0, 1] bcast_S1x2048_S2048x2048_0_1 (broadcastInDim S1x2048 ![1] bcast_S2048_S1x2048_1 (Host.divsi (iotaInDim S2048 32 0) (broadcastInDim S2048 ![] bcast_S_S2048 (constantI S_ 32 64#32))))))) (Host.exp (mulf (broadcastInDim S8x2048x2048 ![0, 1, 2] bcast_S8x1x1_S8x2048x2048_0_1_2 (broadcastInDim S8x1x1 ![0] bcast_S8_S8x1x1_0 (Host.log (subf (broadcastInDim S8 ![] bcast_S_S8 (constant S_ .f32 0x3F800000#32)) (Host.powf (broadcastInDim S8 ![] bcast_S_S8 (constant S_ .f32 0x40000000#32)) (subf (broadcastInDim S8 ![] bcast_S_S8 (constant S_ .f32 0xC0A00000#32)) (sitofp .f32 (iotaInDim S8 32 0)))))))) (broadcastInDim S8x2048x2048 ![0, 1, 2] bcast_S1x2048x2048_S8x2048x2048_0_1_2 (broadcastInDim S1x2048x2048 ![1, 2] bcast_S2048x2048_S1x2048x2048_1_2 (Host.absf (subf (broadcastInDim S2048x2048 ![0, 1] bcast_S2048x1_S2048x2048_0_1 (broadcastInDim S2048x1 ![0] bcast_S2048_S2048x1_0 (sitofp .f32 (iotaInDim S2048 32 0)))) (broadcastInDim S2048x2048 ![0, 1] bcast_S1x2048_S2048x2048_0_1 (broadcastInDim S1x2048 ![1] bcast_S2048_S1x2048_1 (sitofp .f32 (iotaInDim S2048 32 0)))))))))) (select (broadcastInDim S8x2048x2048 ![1, 2] bcast_S2048x2048_S8x2048x2048_1_2 (cmpi .slt (broadcastInDim S2048x2048 ![0, 1] bcast_S1x2048_S2048x2048_0_1 (broadcastInDim S1x2048 ![1] bcast_S2048_S1x2048_1 (Host.divsi (iotaInDim S2048 32 0) (broadcastInDim S2048 ![] bcast_S_S2048 (constantI S_ 32 64#32))))) (broadcastInDim S2048x2048 ![0, 1] bcast_S2048x1_S2048x2048_0_1 (broadcastInDim S2048x1 ![0] bcast_S2048_S2048x1_0 (Host.divsi (iotaInDim S2048 32 0) (broadcastInDim S2048 ![] bcast_S_S2048 (constantI S_ 32 64#32))))))) (Host.exp (mulf (broadcastInDim S8x2048x2048 ![0, 1, 2] bcast_S8x1x1_S8x2048x2048_0_1_2 (broadcastInDim S8x1x1 ![0] bcast_S8_S8x1x1_0 (Host.log (subf (broadcastInDim S8 ![] bcast_S_S8 (constant S_ .f32 0x3F800000#32)) (Host.powf (broadcastInDim S8 ![] bcast_S_S8 (constant S_ .f32 0x40000000#32)) (subf (broadcastInDim S8 ![] bcast_S_S8 (constant S_ .f32 0xC0A00000#32)) (sitofp .f32 (iotaInDim S8 32 0)))))))) (broadcastInDim S8x2048x2048 ![0, 1, 2] bcast_S1x2048x2048_S8x2048x2048_0_1_2 (broadcastInDim S1x2048x2048 ![1, 2] bcast_S2048x2048_S1x2048x2048_1_2 (subf (broadcastInDim S2048x2048 ![0, 1] bcast_S2048x1_S2048x2048_0_1 (broadcastInDim S2048x1 ![0] bcast_S2048_S2048x1_0 (sitofp .f32 (iotaInDim S2048 32 0)))) (broadcastInDim S2048x2048 ![0, 1] bcast_S1x2048_S2048x2048_0_1 (broadcastInDim S1x2048 ![1] bcast_S2048_S1x2048_1 (sitofp .f32 (iotaInDim S2048 32 0))))))))) (broadcastInDim S8x2048x2048 ![] bcast_S_S8x2048x2048 (id (constant S_ .f32 0x00000000#32)))))))) (shapeCast _ (extf .f32 (extractStridedSlice S8192x4096 ![0, 4096] x slices_S8192x26624_S8192x4096_0_4096) bitsLt_bf16_f32) shapeCasts_S8192x4096_S4x2048x8x512)) transposes_S4x8x2048x512_S4x2048x8x512_0_2_1_3) (broadcastInDim S4x2048x8x512 ![0, 1, 2, 3] bcast_S4x2048x8x1_S4x2048x8x512_0_1_2_3 (Host.rsqrt (addf (Host.divf (broadcastInDim S4x2048x8x1 ![0, 1, 2] bcast_S4x2048x8_S4x2048x8x1_0_1_2 (Host.reduceAdd (mulf (transpose S4x2048x8x512 [0, 2, 1, 3] (Host.dotGeneral dot_S4x8x2048x2048_S4x2048x8x512_S4x8x2048x512_3_1_2_3_01_02 none (mulf (Host.dotGeneral dot_S4x2048x8x256_S4x2048x8x256_S4x8x2048x2048_3_3_1_1_02_02 none (concatenate S4x2048x8x256 3 [⟨S4x2048x8x128, (subf (mulf (extractStridedSlice S4x2048x8x128 ![0, 0, 0, 0] (shapeCast _ (extf .f32 (extractStridedSlice S8192x2048 ![0, 0] x slices_S8192x26624_S8192x2048_0_0) bitsLt_bf16_f32) shapeCasts_S8192x2048_S4x2048x8x256) slices_S4x2048x8x256_S4x2048x8x128_0_0_0_0) (broadcastInDim S4x2048x8x128 ![0, 1, 2, 3] bcast_S1x2048x1x128_S4x2048x8x128_0_1_2_3 (broadcastInDim S1x2048x1x128 ![1, 3] bcast_S2048x128_S1x2048x1x128_1_3 (Host.cos (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))) (mulf (extractStridedSlice S4x2048x8x128 ![0, 0, 0, 128] (shapeCast _ (extf .f32 (extractStridedSlice S8192x2048 ![0, 0] x slices_S8192x26624_S8192x2048_0_0) bitsLt_bf16_f32) shapeCasts_S8192x2048_S4x2048x8x256) slices_S4x2048x8x256_S4x2048x8x128_0_0_0_128) (broadcastInDim S4x2048x8x128 ![0, 1, 2, 3] bcast_S1x2048x1x128_S4x2048x8x128_0_1_2_3 (broadcastInDim S1x2048x1x128 ![1, 3] bcast_S2048x128_S1x2048x1x128_1_3 (Host.sin (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))))⟩, ⟨S4x2048x8x128, (addf (mulf (extractStridedSlice S4x2048x8x128 ![0, 0, 0, 0] (shapeCast _ (extf .f32 (extractStridedSlice S8192x2048 ![0, 0] x slices_S8192x26624_S8192x2048_0_0) bitsLt_bf16_f32) shapeCasts_S8192x2048_S4x2048x8x256) slices_S4x2048x8x256_S4x2048x8x128_0_0_0_0) (broadcastInDim S4x2048x8x128 ![0, 1, 2, 3] bcast_S1x2048x1x128_S4x2048x8x128_0_1_2_3 (broadcastInDim S1x2048x1x128 ![1, 3] bcast_S2048x128_S1x2048x1x128_1_3 (Host.sin (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))) (mulf (extractStridedSlice S4x2048x8x128 ![0, 0, 0, 128] (shapeCast _ (extf .f32 (extractStridedSlice S8192x2048 ![0, 0] x slices_S8192x26624_S8192x2048_0_0) bitsLt_bf16_f32) shapeCasts_S8192x2048_S4x2048x8x256) slices_S4x2048x8x256_S4x2048x8x128_0_0_0_128) (broadcastInDim S4x2048x8x128 ![0, 1, 2, 3] bcast_S1x2048x1x128_S4x2048x8x128_0_1_2_3 (broadcastInDim S1x2048x1x128 ![1, 3] bcast_S2048x128_S1x2048x1x128_1_3 (Host.cos (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))))⟩] concatenates_S4x2048x8x128_S4x2048x8x128_S4x2048x8x256_d3) (mulf (concatenate S4x2048x8x256 3 [⟨S4x2048x8x128, (subf (mulf (extractStridedSlice S4x2048x8x128 ![0, 0, 0, 0] (shapeCast _ (extf .f32 (extractStridedSlice S8192x2048 ![0, 2048] x slices_S8192x26624_S8192x2048_0_2048) bitsLt_bf16_f32) shapeCasts_S8192x2048_S4x2048x8x256) slices_S4x2048x8x256_S4x2048x8x128_0_0_0_0) (broadcastInDim S4x2048x8x128 ![0, 1, 2, 3] bcast_S1x2048x1x128_S4x2048x8x128_0_1_2_3 (broadcastInDim S1x2048x1x128 ![1, 3] bcast_S2048x128_S1x2048x1x128_1_3 (Host.cos (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))) (mulf (extractStridedSlice S4x2048x8x128 ![0, 0, 0, 128] (shapeCast _ (extf .f32 (extractStridedSlice S8192x2048 ![0, 2048] x slices_S8192x26624_S8192x2048_0_2048) bitsLt_bf16_f32) shapeCasts_S8192x2048_S4x2048x8x256) slices_S4x2048x8x256_S4x2048x8x128_0_0_0_128) (broadcastInDim S4x2048x8x128 ![0, 1, 2, 3] bcast_S1x2048x1x128_S4x2048x8x128_0_1_2_3 (broadcastInDim S1x2048x1x128 ![1, 3] bcast_S2048x128_S1x2048x1x128_1_3 (Host.sin (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))))⟩, ⟨S4x2048x8x128, (addf (mulf (extractStridedSlice S4x2048x8x128 ![0, 0, 0, 0] (shapeCast _ (extf .f32 (extractStridedSlice S8192x2048 ![0, 2048] x slices_S8192x26624_S8192x2048_0_2048) bitsLt_bf16_f32) shapeCasts_S8192x2048_S4x2048x8x256) slices_S4x2048x8x256_S4x2048x8x128_0_0_0_0) (broadcastInDim S4x2048x8x128 ![0, 1, 2, 3] bcast_S1x2048x1x128_S4x2048x8x128_0_1_2_3 (broadcastInDim S1x2048x1x128 ![1, 3] bcast_S2048x128_S1x2048x1x128_1_3 (Host.sin (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))) (mulf (extractStridedSlice S4x2048x8x128 ![0, 0, 0, 128] (shapeCast _ (extf .f32 (extractStridedSlice S8192x2048 ![0, 2048] x slices_S8192x26624_S8192x2048_0_2048) bitsLt_bf16_f32) shapeCasts_S8192x2048_S4x2048x8x256) slices_S4x2048x8x256_S4x2048x8x128_0_0_0_128) (broadcastInDim S4x2048x8x128 ![0, 1, 2, 3] bcast_S1x2048x1x128_S4x2048x8x128_0_1_2_3 (broadcastInDim S1x2048x1x128 ![1, 3] bcast_S2048x128_S1x2048x1x128_1_3 (Host.cos (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))))⟩] concatenates_S4x2048x8x128_S4x2048x8x128_S4x2048x8x256_d3) (broadcastInDim S4x2048x8x256 ![] bcast_S_S4x2048x8x256 (constant S_ .f32 0x3D800000#32)))) (broadcastInDim S4x8x2048x2048 ![0, 1, 2, 3] bcast_S1x8x2048x2048_S4x8x2048x2048_0_1_2_3 (broadcastInDim S1x8x2048x2048 ![1, 2, 3] bcast_S8x2048x2048_S1x8x2048x2048_1_2_3 (select (broadcastInDim S8x2048x2048 ![1, 2] bcast_S2048x2048_S8x2048x2048_1_2 (cmpi .eq (broadcastInDim S2048x2048 ![0, 1] bcast_S2048x1_S2048x2048_0_1 (broadcastInDim S2048x1 ![0] bcast_S2048_S2048x1_0 (Host.divsi (iotaInDim S2048 32 0) (broadcastInDim S2048 ![] bcast_S_S2048 (constantI S_ 32 64#32))))) (broadcastInDim S2048x2048 ![0, 1] bcast_S1x2048_S2048x2048_0_1 (broadcastInDim S1x2048 ![1] bcast_S2048_S1x2048_1 (Host.divsi (iotaInDim S2048 32 0) (broadcastInDim S2048 ![] bcast_S_S2048 (constantI S_ 32 64#32))))))) (Host.exp (mulf (broadcastInDim S8x2048x2048 ![0, 1, 2] bcast_S8x1x1_S8x2048x2048_0_1_2 (broadcastInDim S8x1x1 ![0] bcast_S8_S8x1x1_0 (Host.log (subf (broadcastInDim S8 ![] bcast_S_S8 (constant S_ .f32 0x3F800000#32)) (Host.powf (broadcastInDim S8 ![] bcast_S_S8 (constant S_ .f32 0x40000000#32)) (subf (broadcastInDim S8 ![] bcast_S_S8 (constant S_ .f32 0xC0A00000#32)) (sitofp .f32 (iotaInDim S8 32 0)))))))) (broadcastInDim S8x2048x2048 ![0, 1, 2] bcast_S1x2048x2048_S8x2048x2048_0_1_2 (broadcastInDim S1x2048x2048 ![1, 2] bcast_S2048x2048_S1x2048x2048_1_2 (Host.absf (subf (broadcastInDim S2048x2048 ![0, 1] bcast_S2048x1_S2048x2048_0_1 (broadcastInDim S2048x1 ![0] bcast_S2048_S2048x1_0 (sitofp .f32 (iotaInDim S2048 32 0)))) (broadcastInDim S2048x2048 ![0, 1] bcast_S1x2048_S2048x2048_0_1 (broadcastInDim S1x2048 ![1] bcast_S2048_S1x2048_1 (sitofp .f32 (iotaInDim S2048 32 0)))))))))) (select (broadcastInDim S8x2048x2048 ![1, 2] bcast_S2048x2048_S8x2048x2048_1_2 (cmpi .slt (broadcastInDim S2048x2048 ![0, 1] bcast_S1x2048_S2048x2048_0_1 (broadcastInDim S1x2048 ![1] bcast_S2048_S1x2048_1 (Host.divsi (iotaInDim S2048 32 0) (broadcastInDim S2048 ![] bcast_S_S2048 (constantI S_ 32 64#32))))) (broadcastInDim S2048x2048 ![0, 1] bcast_S2048x1_S2048x2048_0_1 (broadcastInDim S2048x1 ![0] bcast_S2048_S2048x1_0 (Host.divsi (iotaInDim S2048 32 0) (broadcastInDim S2048 ![] bcast_S_S2048 (constantI S_ 32 64#32))))))) (Host.exp (mulf (broadcastInDim S8x2048x2048 ![0, 1, 2] bcast_S8x1x1_S8x2048x2048_0_1_2 (broadcastInDim S8x1x1 ![0] bcast_S8_S8x1x1_0 (Host.log (subf (broadcastInDim S8 ![] bcast_S_S8 (constant S_ .f32 0x3F800000#32)) (Host.powf (broadcastInDim S8 ![] bcast_S_S8 (constant S_ .f32 0x40000000#32)) (subf (broadcastInDim S8 ![] bcast_S_S8 (constant S_ .f32 0xC0A00000#32)) (sitofp .f32 (iotaInDim S8 32 0)))))))) (broadcastInDim S8x2048x2048 ![0, 1, 2] bcast_S1x2048x2048_S8x2048x2048_0_1_2 (broadcastInDim S1x2048x2048 ![1, 2] bcast_S2048x2048_S1x2048x2048_1_2 (subf (broadcastInDim S2048x2048 ![0, 1] bcast_S2048x1_S2048x2048_0_1 (broadcastInDim S2048x1 ![0] bcast_S2048_S2048x1_0 (sitofp .f32 (iotaInDim S2048 32 0)))) (broadcastInDim S2048x2048 ![0, 1] bcast_S1x2048_S2048x2048_0_1 (broadcastInDim S1x2048 ![1] bcast_S2048_S1x2048_1 (sitofp .f32 (iotaInDim S2048 32 0))))))))) (broadcastInDim S8x2048x2048 ![] bcast_S_S8x2048x2048 (id (constant S_ .f32 0x00000000#32)))))))) (shapeCast _ (extf .f32 (extractStridedSlice S8192x4096 ![0, 4096] x slices_S8192x26624_S8192x4096_0_4096) bitsLt_bf16_f32) shapeCasts_S8192x4096_S4x2048x8x512)) transposes_S4x8x2048x512_S4x2048x8x512_0_2_1_3) (transpose S4x2048x8x512 [0, 2, 1, 3] (Host.dotGeneral dot_S4x8x2048x2048_S4x2048x8x512_S4x8x2048x512_3_1_2_3_01_02 none (mulf (Host.dotGeneral dot_S4x2048x8x256_S4x2048x8x256_S4x8x2048x2048_3_3_1_1_02_02 none (concatenate S4x2048x8x256 3 [⟨S4x2048x8x128, (subf (mulf (extractStridedSlice S4x2048x8x128 ![0, 0, 0, 0] (shapeCast _ (extf .f32 (extractStridedSlice S8192x2048 ![0, 0] x slices_S8192x26624_S8192x2048_0_0) bitsLt_bf16_f32) shapeCasts_S8192x2048_S4x2048x8x256) slices_S4x2048x8x256_S4x2048x8x128_0_0_0_0) (broadcastInDim S4x2048x8x128 ![0, 1, 2, 3] bcast_S1x2048x1x128_S4x2048x8x128_0_1_2_3 (broadcastInDim S1x2048x1x128 ![1, 3] bcast_S2048x128_S1x2048x1x128_1_3 (Host.cos (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))) (mulf (extractStridedSlice S4x2048x8x128 ![0, 0, 0, 128] (shapeCast _ (extf .f32 (extractStridedSlice S8192x2048 ![0, 0] x slices_S8192x26624_S8192x2048_0_0) bitsLt_bf16_f32) shapeCasts_S8192x2048_S4x2048x8x256) slices_S4x2048x8x256_S4x2048x8x128_0_0_0_128) (broadcastInDim S4x2048x8x128 ![0, 1, 2, 3] bcast_S1x2048x1x128_S4x2048x8x128_0_1_2_3 (broadcastInDim S1x2048x1x128 ![1, 3] bcast_S2048x128_S1x2048x1x128_1_3 (Host.sin (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))))⟩, ⟨S4x2048x8x128, (addf (mulf (extractStridedSlice S4x2048x8x128 ![0, 0, 0, 0] (shapeCast _ (extf .f32 (extractStridedSlice S8192x2048 ![0, 0] x slices_S8192x26624_S8192x2048_0_0) bitsLt_bf16_f32) shapeCasts_S8192x2048_S4x2048x8x256) slices_S4x2048x8x256_S4x2048x8x128_0_0_0_0) (broadcastInDim S4x2048x8x128 ![0, 1, 2, 3] bcast_S1x2048x1x128_S4x2048x8x128_0_1_2_3 (broadcastInDim S1x2048x1x128 ![1, 3] bcast_S2048x128_S1x2048x1x128_1_3 (Host.sin (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))) (mulf (extractStridedSlice S4x2048x8x128 ![0, 0, 0, 128] (shapeCast _ (extf .f32 (extractStridedSlice S8192x2048 ![0, 0] x slices_S8192x26624_S8192x2048_0_0) bitsLt_bf16_f32) shapeCasts_S8192x2048_S4x2048x8x256) slices_S4x2048x8x256_S4x2048x8x128_0_0_0_128) (broadcastInDim S4x2048x8x128 ![0, 1, 2, 3] bcast_S1x2048x1x128_S4x2048x8x128_0_1_2_3 (broadcastInDim S1x2048x1x128 ![1, 3] bcast_S2048x128_S1x2048x1x128_1_3 (Host.cos (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))))⟩] concatenates_S4x2048x8x128_S4x2048x8x128_S4x2048x8x256_d3) (mulf (concatenate S4x2048x8x256 3 [⟨S4x2048x8x128, (subf (mulf (extractStridedSlice S4x2048x8x128 ![0, 0, 0, 0] (shapeCast _ (extf .f32 (extractStridedSlice S8192x2048 ![0, 2048] x slices_S8192x26624_S8192x2048_0_2048) bitsLt_bf16_f32) shapeCasts_S8192x2048_S4x2048x8x256) slices_S4x2048x8x256_S4x2048x8x128_0_0_0_0) (broadcastInDim S4x2048x8x128 ![0, 1, 2, 3] bcast_S1x2048x1x128_S4x2048x8x128_0_1_2_3 (broadcastInDim S1x2048x1x128 ![1, 3] bcast_S2048x128_S1x2048x1x128_1_3 (Host.cos (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))) (mulf (extractStridedSlice S4x2048x8x128 ![0, 0, 0, 128] (shapeCast _ (extf .f32 (extractStridedSlice S8192x2048 ![0, 2048] x slices_S8192x26624_S8192x2048_0_2048) bitsLt_bf16_f32) shapeCasts_S8192x2048_S4x2048x8x256) slices_S4x2048x8x256_S4x2048x8x128_0_0_0_128) (broadcastInDim S4x2048x8x128 ![0, 1, 2, 3] bcast_S1x2048x1x128_S4x2048x8x128_0_1_2_3 (broadcastInDim S1x2048x1x128 ![1, 3] bcast_S2048x128_S1x2048x1x128_1_3 (Host.sin (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))))⟩, ⟨S4x2048x8x128, (addf (mulf (extractStridedSlice S4x2048x8x128 ![0, 0, 0, 0] (shapeCast _ (extf .f32 (extractStridedSlice S8192x2048 ![0, 2048] x slices_S8192x26624_S8192x2048_0_2048) bitsLt_bf16_f32) shapeCasts_S8192x2048_S4x2048x8x256) slices_S4x2048x8x256_S4x2048x8x128_0_0_0_0) (broadcastInDim S4x2048x8x128 ![0, 1, 2, 3] bcast_S1x2048x1x128_S4x2048x8x128_0_1_2_3 (broadcastInDim S1x2048x1x128 ![1, 3] bcast_S2048x128_S1x2048x1x128_1_3 (Host.sin (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))) (mulf (extractStridedSlice S4x2048x8x128 ![0, 0, 0, 128] (shapeCast _ (extf .f32 (extractStridedSlice S8192x2048 ![0, 2048] x slices_S8192x26624_S8192x2048_0_2048) bitsLt_bf16_f32) shapeCasts_S8192x2048_S4x2048x8x256) slices_S4x2048x8x256_S4x2048x8x128_0_0_0_128) (broadcastInDim S4x2048x8x128 ![0, 1, 2, 3] bcast_S1x2048x1x128_S4x2048x8x128_0_1_2_3 (broadcastInDim S1x2048x1x128 ![1, 3] bcast_S2048x128_S1x2048x1x128_1_3 (Host.cos (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32))))))))))))⟩] concatenates_S4x2048x8x128_S4x2048x8x128_S4x2048x8x256_d3) (broadcastInDim S4x2048x8x256 ![] bcast_S_S4x2048x8x256 (constant S_ .f32 0x3D800000#32)))) (broadcastInDim S4x8x2048x2048 ![0, 1, 2, 3] bcast_S1x8x2048x2048_S4x8x2048x2048_0_1_2_3 (broadcastInDim S1x8x2048x2048 ![1, 2, 3] bcast_S8x2048x2048_S1x8x2048x2048_1_2_3 (select (broadcastInDim S8x2048x2048 ![1, 2] bcast_S2048x2048_S8x2048x2048_1_2 (cmpi .eq (broadcastInDim S2048x2048 ![0, 1] bcast_S2048x1_S2048x2048_0_1 (broadcastInDim S2048x1 ![0] bcast_S2048_S2048x1_0 (Host.divsi (iotaInDim S2048 32 0) (broadcastInDim S2048 ![] bcast_S_S2048 (constantI S_ 32 64#32))))) (broadcastInDim S2048x2048 ![0, 1] bcast_S1x2048_S2048x2048_0_1 (broadcastInDim S1x2048 ![1] bcast_S2048_S1x2048_1 (Host.divsi (iotaInDim S2048 32 0) (broadcastInDim S2048 ![] bcast_S_S2048 (constantI S_ 32 64#32))))))) (Host.exp (mulf (broadcastInDim S8x2048x2048 ![0, 1, 2] bcast_S8x1x1_S8x2048x2048_0_1_2 (broadcastInDim S8x1x1 ![0] bcast_S8_S8x1x1_0 (Host.log (subf (broadcastInDim S8 ![] bcast_S_S8 (constant S_ .f32 0x3F800000#32)) (Host.powf (broadcastInDim S8 ![] bcast_S_S8 (constant S_ .f32 0x40000000#32)) (subf (broadcastInDim S8 ![] bcast_S_S8 (constant S_ .f32 0xC0A00000#32)) (sitofp .f32 (iotaInDim S8 32 0)))))))) (broadcastInDim S8x2048x2048 ![0, 1, 2] bcast_S1x2048x2048_S8x2048x2048_0_1_2 (broadcastInDim S1x2048x2048 ![1, 2] bcast_S2048x2048_S1x2048x2048_1_2 (Host.absf (subf (broadcastInDim S2048x2048 ![0, 1] bcast_S2048x1_S2048x2048_0_1 (broadcastInDim S2048x1 ![0] bcast_S2048_S2048x1_0 (sitofp .f32 (iotaInDim S2048 32 0)))) (broadcastInDim S2048x2048 ![0, 1] bcast_S1x2048_S2048x2048_0_1 (broadcastInDim S1x2048 ![1] bcast_S2048_S1x2048_1 (sitofp .f32 (iotaInDim S2048 32 0)))))))))) (select (broadcastInDim S8x2048x2048 ![1, 2] bcast_S2048x2048_S8x2048x2048_1_2 (cmpi .slt (broadcastInDim S2048x2048 ![0, 1] bcast_S1x2048_S2048x2048_0_1 (broadcastInDim S1x2048 ![1] bcast_S2048_S1x2048_1 (Host.divsi (iotaInDim S2048 32 0) (broadcastInDim S2048 ![] bcast_S_S2048 (constantI S_ 32 64#32))))) (broadcastInDim S2048x2048 ![0, 1] bcast_S2048x1_S2048x2048_0_1 (broadcastInDim S2048x1 ![0] bcast_S2048_S2048x1_0 (Host.divsi (iotaInDim S2048 32 0) (broadcastInDim S2048 ![] bcast_S_S2048 (constantI S_ 32 64#32))))))) (Host.exp (mulf (broadcastInDim S8x2048x2048 ![0, 1, 2] bcast_S8x1x1_S8x2048x2048_0_1_2 (broadcastInDim S8x1x1 ![0] bcast_S8_S8x1x1_0 (Host.log (subf (broadcastInDim S8 ![] bcast_S_S8 (constant S_ .f32 0x3F800000#32)) (Host.powf (broadcastInDim S8 ![] bcast_S_S8 (constant S_ .f32 0x40000000#32)) (subf (broadcastInDim S8 ![] bcast_S_S8 (constant S_ .f32 0xC0A00000#32)) (sitofp .f32 (iotaInDim S8 32 0)))))))) (broadcastInDim S8x2048x2048 ![0, 1, 2] bcast_S1x2048x2048_S8x2048x2048_0_1_2 (broadcastInDim S1x2048x2048 ![1, 2] bcast_S2048x2048_S1x2048x2048_1_2 (subf (broadcastInDim S2048x2048 ![0, 1] bcast_S2048x1_S2048x2048_0_1 (broadcastInDim S2048x1 ![0] bcast_S2048_S2048x1_0 (sitofp .f32 (iotaInDim S2048 32 0)))) (broadcastInDim S2048x2048 ![0, 1] bcast_S1x2048_S2048x2048_0_1 (broadcastInDim S1x2048 ![1] bcast_S2048_S1x2048_1 (sitofp .f32 (iotaInDim S2048 32 0))))))))) (broadcastInDim S8x2048x2048 ![] bcast_S_S8x2048x2048 (id (constant S_ .f32 0x00000000#32)))))))) (shapeCast _ (extf .f32 (extractStridedSlice S8192x4096 ![0, 4096] x slices_S8192x26624_S8192x4096_0_4096) bitsLt_bf16_f32) shapeCasts_S8192x4096_S4x2048x8x512)) transposes_S4x8x2048x512_S4x2048x8x512_0_2_1_3)) (constant S_ .f32 0x00000000#32) reducesTo_S4x2048x8x512_S4x2048x8_d3 h_S_)) (broadcastInDim S4x2048x8x1 ![] bcast_S_S4x2048x8x1 (constant S_ .f32 0x44000000#32))) (broadcastInDim S4x2048x8x1 ![] bcast_S_S4x2048x8x1 (constant S_ .f32 0x358637BD#32)))))) shapeCasts_S4x2048x8x512_S8192x4096)) bitsLt_bf16_f32 : FVec Ideal S8192x4096 .bf16) (ix2 T L) = Cert.Ret.out x T L := by
  pointwise
  unfold Cert.Ret.out Cert.Ret.fin Cert.Ret.mixE
  simp only [Cert.Ret.qr, Cert.Ret.kr, Cert.Ret.rot_dot, Cert.Ret.vr_lane]
  refine congrArg₂ (fun a b : EReal => a * b) ?_ (congrArg₂ (fun a b : EReal => a * b) ?_ ?_)
  · rfl
  · rfl
  · rfl

end Cert.Reference7Ideal.Ret

end
-- ==== Proof.RetFinite.lean ====
module

public import proofs.«01_k».proof.Proof.Math
public import proofs.«01_k».proof.Proof.Gen.Pre_finite_proj
public import Idealize.ShloMosaic.Lib.ReduceAll

@[expose] public section

set_option maxRecDepth 16384

noncomputable section

open Idealize.ShloMosaic
open Cert.Attn (IsReal)

namespace Cert.Ret

theorem real_of_olt (x : EReal) (h : FloatOps.cmpf (F := Ideal) (φ := .bf16) .olt (FloatOps.absf (F := Ideal) (φ := .bf16) x) (Ideal.ofBits .bf16 0x7F80#16) = 1#1) : IsReal x := by
  induction x with
  | coe r => exact ⟨r, rfl⟩
  | bot => exact absurd h (by simp [FloatOps.cmpf, FloatOps.absf, Ideal.cmp, Ideal.ofBits, Ideal.ieee])
  | top => exact absurd h (by simp [FloatOps.cmpf, FloatOps.absf, Ideal.cmp, Ideal.ofBits, Ideal.ieee])

instance : Subsingleton (Cert.Pre_finite_proj.S_).Idx := ⟨fun a b => funext fun i => i.elim0⟩

/-- What the precondition says of the projected rows. -/
theorem finite_read (a0 : FVec Ideal Cert.Pre_finite_proj.S8192x26624 .bf16) (h : Cert.Pre_finite_proj.fn (F := Ideal) a0 = fun _ => 1#1) : ∀ i, IsReal (a0 i) := by
  have h := congrFun h ix0
  unfold Cert.Pre_finite_proj.fn at h
  exact fun i => real_of_olt _ (Host.reduce_andi_all _ _ _ _ _ h i)

end Cert.Ret

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference2Ideal
public import proofs.«01_k».proof.Proof.Gen.Reference3Ideal
public import proofs.«01_k».proof.Proof.Gen.Reference4Ideal
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Same
public import proofs.«01_k».proof.Proof.Proj
public import proofs.«01_k».proof.Proof.Merge
public import proofs.«01_k».proof.Proof.Outp
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_finite_proj
public import proofs.«01_k».proof.Proof.Ada
public import proofs.«01_k».proof.Proof.Norm
public import proofs.«01_k».proof.Proof.RetRun
public import proofs.«01_k».proof.Proof.RetRef
public import proofs.«01_k».proof.Proof.RetFinite
public import Idealize.ShloMosaic.Adequacy
public import Idealize.ShloMosaic.Init

@[expose] public section

noncomputable section

namespace Cert.Proof

open Idealize.ShloMosaic Idealize.SL.Sem Cert.Kernel

/-- The reference of the attention runs from every memory and leaves its arguments. -/
theorem frame_r (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The attention's value claim: both results are one function of the arguments. -/
theorem algebraic : Cert.algebraic_KernelIdeal_ReferenceIdeal_pre_finite := by
  intro m g m' g' hpre hagree
  refine ⟨fun c => Cert.KernelIdeal.Gen.W4 m g c (Proc.devRef .tc Cert.KernelIdeal.main_v9), Cert.KernelIdeal.Attn.run m g, ?_⟩
  refine (θ_run Cert.ReferenceIdeal.defs _ _).mono (fun r h c => ⟨(h c).1.trans ?_, (h c).2⟩) (Cert.ReferenceIdeal.Value.run (F := Ideal) m' g')
  obtain ⟨a0, a1, a2, a3⟩ := hagree c
  obtain ⟨f1, f2, f3⟩ := Cert.Attn.finite_read _ _ _ _ (hpre c)
  refine Eq.trans ?_ (Cert.KernelIdeal.Attn.out_val m g c).symm
  refine funext fun (y : (⟨2, ![8192, 2048]⟩ : Shape).Idx) => ?_
  refine ((congrArg (Cert.ReferenceIdeal.Value.res_main_v119 m' c) (eq_ix2 y)).trans (Cert.ReferenceIdeal.Attn.res_at m' c (y 0) (y 1))).trans ?_
  exact (Cert.Attn.same m m' c (fun t l => congrFun a0 (ix2 t l)) (fun h i => congrFun a1 (ix2 h i)) (funext fun d => congrFun a2 (ix1 d))
    (funext fun d => congrFun a3 (ix1 d)) (fun h i => f1 (ix2 h i)) (fun d => f2 (ix1 d)) (fun d => f3 (ix1 d)) (y 0) (y 1)).symm

/-- The reference of call 2 runs from every memory and leaves its arguments. -/
theorem frame_r2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The value claim of call 2. -/
theorem algebraic2 : Cert.algebraic_Kernel2Ideal_Reference2Ideal := by
  intro m g m' g' _ hagree
  refine ⟨fun c => (Cert.Kernel2Ideal.Gen.dats m 0 c).arrAt 2 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run (F := Ideal) m' g')
  obtain ⟨a0, a1⟩ := hagree c
  refine Eq.trans ?_ (Cert.Kernel2Ideal.Proj.arr m c).symm
  rw [a0, a1]
  refine funext fun (y : (⟨2, ![8192, 26624]⟩ : Shape).Idx) => ?_
  exact (congrArg _ (eq_ix2 y)).trans (Cert.Reference2Ideal.Proj.res_at _ _ (y 0) (y 1))

/-- The reference of call 3 runs from every memory and leaves its arguments. -/
theorem frame_r3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The value claim of call 3. -/
theorem algebraic3 : Cert.algebraic_Kernel3Ideal_Reference3Ideal := by
  intro m g m' g' _ hagree
  refine ⟨fun c => (Cert.Kernel3Ideal.Gen.dats m 0 c).arrAt 6 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run (F := Ideal) m' g')
  obtain ⟨a0, a1, a2, a3, a4⟩ := hagree c
  refine Eq.trans ?_ (Cert.Kernel3Ideal.Merge.arr m c).symm
  rw [a0, a1, a2, a3, a4]
  refine funext fun (y : (⟨2, ![8192, 4096]⟩ : Shape).Idx) => ?_
  exact (congrArg _ (eq_ix2 y)).trans (Cert.Reference3Ideal.Merge.res_at _ _ _ _ _ (y 0) (y 1))

/-- The reference of call 4 runs from every memory and leaves its arguments. -/
theorem frame_r4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- The value claim of call 4. -/
theorem algebraic4 : Cert.algebraic_Kernel4Ideal_Reference4Ideal := by
  intro m g m' g' _ hagree
  refine ⟨fun c => (Cert.Kernel4Ideal.Gen.dats m 0 c).arrAt 4 Cert.Kernel4Ideal.cfg0.N, Cert.Kernel4Ideal.Value.run_blocks m g, ?_⟩
  refine (θ_run Cert.Reference4Ideal.defs _ _).mono (fun r h c => ⟨(h c).1.trans ?_, (h c).2⟩) (Cert.Reference4Ideal.Value.run (F := Ideal) m' g')
  obtain ⟨a0, a1, a2, a3⟩ := hagree c
  refine Eq.trans ?_ (Cert.Kernel4Ideal.Outp.arr m c).symm
  rw [a0, a1, a2, a3]
  refine funext fun (y : (⟨2, ![8192, 4096]⟩ : Shape).Idx) => ?_
  exact (congrArg _ (eq_ix2 y)).trans (Cert.Reference4Ideal.Outp.res_at _ _ _ _ (y 0) (y 1))

/-- The reference of call 5 runs from every memory and leaves its arguments. -/
theorem frame_r5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- The value claim of call 5. -/
theorem algebraic5 : Cert.algebraic_Kernel5Ideal_Reference5Ideal := by
  intro m g m' g' _ hagree
  refine ⟨_, Cert.Kernel5Ideal.Ada.run m g, ?_⟩
  refine (θ_run Cert.Reference5Ideal.defs _ _).mono (fun r h c => ⟨(h c).1.trans ?_, (h c).2⟩) (Cert.Reference5Ideal.Value.run (F := Ideal) m' g')
  obtain ⟨a0, a1, a2⟩ := hagree c
  rw [a0, a1, a2]
  refine funext fun (y : (⟨3, ![24, 1, 4096]⟩ : Shape).Idx) => ?_
  have h : y = ix3 (y 0) 0 (y 2) := (eq_ix3 y).trans (congrArg (fun q => ix3 (y 0) q (y 2)) (Subsingleton.elim (α := Fin 1) (y 1) 0))
  refine ((congrArg _ h).trans (Cert.Reference5Ideal.Ada.res_at _ _ _ (y 0) (y 2))).trans ?_
  exact ((congrArg _ h).trans (Cert.Kernel5Ideal.Ada.res m c (y 0) (y 2))).symm

/-- The reference of call 6 runs from every memory and leaves its arguments. -/
theorem frame_r6 : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- The value claim of call 6. -/
theorem algebraic6 : Cert.algebraic_Kernel6Ideal_Reference6Ideal := by
  intro m g m' g' _ hagree
  refine ⟨fun c => (Cert.Kernel6Ideal.Gen.dats m 0 c).arrAt 4 Cert.Kernel6Ideal.cfg0.N, Cert.Kernel6Ideal.Value.run_blocks m g, ?_⟩
  refine (θ_run Cert.Reference6Ideal.defs _ _).mono (fun r h c => ⟨(h c).1.trans ?_, (h c).2⟩) (Cert.Reference6Ideal.Value.run (F := Ideal) m' g')
  obtain ⟨a0, a1, a2⟩ := hagree c
  refine Eq.trans ?_ (Cert.Kernel6Ideal.Norm.arr m c).symm
  rw [a0, a1, a2]
  refine funext fun (y : (⟨2, ![8192, 4096]⟩ : Shape).Idx) => ?_
  exact (congrArg _ (eq_ix2 y)).trans (Cert.Reference6Ideal.Norm.res_at _ _ _ (y 0) (y 1))

/-- The reference of call 7 runs from every memory and leaves its argument. -/
theorem frame_r7 : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- The value claim of call 7. -/
theorem algebraic7 : Cert.algebraic_Kernel7Ideal_Reference7Ideal_pre_finite_proj := by
  intro m g m' g' hpre hagree
  refine ⟨fun c => Cert.Kernel7Ideal.Value.G10 m c, Cert.Kernel7Ideal.Value.run m g, ?_⟩
  refine (θ_run Cert.Reference7Ideal.defs _ _).mono (fun r h c => ⟨(h c).1.trans ?_, (h c).2⟩) (Cert.Reference7Ideal.Value.run (F := Ideal) m' g')
  have a0 := hagree c
  have hx : ∀ i, Cert.Attn.IsReal (Cert.Kernel7Ideal.Ret.X m c i) := Cert.Ret.finite_read _ (hpre c)
  unfold Cert.Reference7Ideal.Value.res_main_v132
  rw [a0]
  refine funext fun (y : (⟨2, ![8192, 4096]⟩ : Shape).Idx) => ?_
  refine ((congrArg _ (eq_ix2 y)).trans (Cert.Reference7Ideal.Ret.res_at _ (y 0) (y 1))).trans ?_
  exact ((congrArg (Cert.Kernel7Ideal.Value.G10 m c) (eq_ix2 y)).trans (Cert.Kernel7Ideal.Ret.arr m c hx (y 0) (y 1))).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.Gen.facts, Cert.Pre_finite_proj.Gen.facts,
  fun m g _ => Cert.Kernel.Gen.frame m g, fun m g _ => Cert.KernelIdeal.Gen.frame m g, fun m g _ => Cert.KernelIdeal.Gen.frame m g,
  fun m g _ => frame_r m g, fun m g _ => frame_r m g,
  fun m g _ => Cert.Kernel2.Gen.frame m g, fun m g _ => Cert.Kernel2Ideal.Gen.frame m g, frame_r2,
  fun m g _ => Cert.Kernel3.Gen.frame m g, fun m g _ => Cert.Kernel3Ideal.Gen.frame m g, frame_r3,
  fun m g _ => Cert.Kernel4.Gen.frame m g, fun m g _ => Cert.Kernel4Ideal.Gen.frame m g, frame_r4,
  fun m g _ => Cert.Kernel5.Gen.frame m g, fun m g _ => Cert.Kernel5Ideal.Gen.frame m g, frame_r5,
  fun m g _ => Cert.Kernel6.Gen.frame m g, fun m g _ => Cert.Kernel6Ideal.Gen.frame m g, frame_r6,
  fun m g _ => Cert.Kernel7.Gen.frame m g, fun m g _ => Cert.Kernel7Ideal.Gen.frame m g, fun m g _ => Cert.Kernel7Ideal.Gen.frame m g,
  frame_r7, fun m g _ => frame_r7 m g trivial,
  trivial, algebraic, trivial, algebraic2, trivial, algebraic3, trivial, algebraic4, trivial, algebraic5, trivial, algebraic6, trivial, algebraic7⟩

end Cert.Proof

end
